-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))
      ∧ r.2.sem = fun _ => 0)

def preserves_Kernel_KernelIdeal : Prop :=
  True

def algebraic_KernelIdeal_ReferenceIdeal_on_written [hKernelIdeal : Cert.KernelIdeal.Facts] [hReferenceIdeal : Cert.ReferenceIdeal.Facts] [hOn_written : Cert.On_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v148)) (v1 : (c : Dev Cert.KernelIdeal.nD) → Buf (Elt Ideal) ((c.tc : Thread Cert.KernelIdeal.nD Cert.KernelIdeal.τ).loc Cert.KernelIdeal.main_v297)) (v2 : (c : Dev Cert.KernelIdeal.nD) → Buf (Elt Ideal) ((c.tc : Thread Cert.KernelIdeal.nD Cert.KernelIdeal.τ).loc Cert.KernelIdeal.main_v298)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![10000, 64]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))).1 i = 1#1 → r.2.mem ((c.tc : Thread Cert.KernelIdeal.nD Cert.KernelIdeal.τ).loc Cert.KernelIdeal.main_v148) i = v0 c i)
          ∧ (∀ i : (⟨2, ![10000, 64]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))).2.1 i = 1#1 → r.2.mem ((c.tc : Thread Cert.KernelIdeal.nD Cert.KernelIdeal.τ).loc Cert.KernelIdeal.main_v297) i = v1 c i)
          ∧ (∀ i : (⟨2, ![10000, 10000]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))).2.2 i = 1#1 → r.2.mem ((c.tc : Thread Cert.KernelIdeal.nD Cert.KernelIdeal.τ).loc Cert.KernelIdeal.main_v298) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![10000, 64]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))).1 i = 1#1 → r.2.mem ((c.tc : Thread Cert.ReferenceIdeal.nD Cert.ReferenceIdeal.τ).loc Cert.ReferenceIdeal.main_v212) i = v0 c i)
          ∧ (∀ i : (⟨2, ![10000, 64]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))).2.1 i = 1#1 → r.2.mem ((c.tc : Thread Cert.ReferenceIdeal.nD Cert.ReferenceIdeal.τ).loc Cert.ReferenceIdeal.main_v425) i = v1 c i)
          ∧ (∀ i : (⟨2, ![10000, 10000]⟩ : Shape).Idx, (Cert.On_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))).2.2 i = 1#1 → r.2.mem ((c.tc : Thread Cert.ReferenceIdeal.nD Cert.ReferenceIdeal.τ).loc Cert.ReferenceIdeal.main_v427) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hOn_written : Cert.On_written.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_written (hKernelIdeal := hKernelIdeal) (hReferenceIdeal := hReferenceIdeal) (hOn_written := hOn_written)
-- ==== On_written.lean ====
abbrev S10000x128 : Shape := ⟨2, ![10000, 128]⟩
abbrev S2x320000 : Shape := ⟨2, ![2, 320000]⟩
abbrev S128x64 : Shape := ⟨2, ![128, 64]⟩
abbrev S64x512 : Shape := ⟨2, ![64, 512]⟩
abbrev S8x64 : Shape := ⟨2, ![8, 64]⟩
abbrev S512x128 : Shape := ⟨2, ![512, 128]⟩
abbrev S128 : Shape := ⟨1, ![128]⟩
abbrev S128x1 : Shape := ⟨2, ![128, 1]⟩
abbrev S512x64 : Shape := ⟨2, ![512, 64]⟩
abbrev S10000x10000 : Shape := ⟨2, ![10000, 10000]⟩
abbrev S10000x64 : Shape := ⟨2, ![10000, 64]⟩
abbrev S_ : Shape := ⟨0, ![]⟩

class Facts : Prop where
  bcast_S_S10000x64 : S_.BroadcastsInDim S10000x64 (![] : Fin 0 → Fin S10000x64.rank)
  bcast_S_S10000x10000 : S_.BroadcastsInDim S10000x10000 (![] : Fin 0 → Fin S10000x10000.rank)

variable [Facts]

def fn {F : FTy → Type} [FloatOps F] (main_arg0 : FVec F S10000x128 .f32) (main_arg1 : FVec F S10000x128 .f32) (main_arg2 : IVec S2x320000 32) (main_arg3 : IVec S2x320000 32) (main_arg4 : IVec S2x320000 32) (main_arg5 : IVec S2x320000 32) (main_arg6 : FVec F S128x64 .f32) (main_arg7 : FVec F S64x512 .f32) (main_arg8 : FVec F S8x64 .f32) (main_arg9 : FVec F S8x64 .f32) (main_arg10 : FVec F S8x64 .f32) (main_arg11 : FVec F S64x512 .f32) (main_arg12 : FVec F S8x64 .f32) (main_arg13 : FVec F S8x64 .f32) (main_arg14 : FVec F S8x64 .f32) (main_arg15 : FVec F S512x128 .f32) (main_arg16 : FVec F S128 .f32) (main_arg17 : FVec F S128x1 .f32) (main_arg18 : FVec F S512x64 .f32) (main_arg19 : FVec F S128x64 .f32) (main_arg20 : FVec F S64x512 .f32) (main_arg21 : FVec F S8x64 .f32) (main_arg22 : FVec F S8x64 .f32) (main_arg23 : FVec F S8x64 .f32) (main_arg24 : FVec F S64x512 .f32) (main_arg25 : FVec F S8x64 .f32) (main_arg26 : FVec F S8x64 .f32) (main_arg27 : FVec F S8x64 .f32) (main_arg28 : FVec F S512x128 .f32) (main_arg29 : FVec F S128 .f32) (main_arg30 : FVec F S128x1 .f32) (main_arg31 : FVec F S512x64 .f32) : IVec S10000x64 1 × IVec S10000x64 1 × IVec S10000x10000 1 :=
  let main_v0 : IVec S10000x10000 32 := iotaInDim S10000x10000 32 0
  let main_v1 : IVec S10000x10000 32 := iotaInDim S10000x10000 32 1
  let main_v2 : IVec S10000x64 32 := iotaInDim S10000x64 32 0
  let main_c : IVec S_ 32 := constantI S_ 32 10000#32
  let main_v3 : IVec S10000x64 32 := broadcastInDim S10000x64 ![] bcast_S_S10000x64 main_c
  let main_v4 : IVec S10000x64 1 := cmpi .slt main_v2 main_v3
  let main_c_0 : IVec S_ 32 := constantI S_ 32 9728#32
  let main_v5 : IVec S10000x10000 32 := broadcastInDim S10000x10000 ![] bcast_S_S10000x10000 main_c_0
  let main_v6 : IVec S10000x10000 1 := cmpi .slt main_v0 main_v5
  let main_c_1 : IVec S_ 32 := constantI S_ 32 9216#32
  let main_v7 : IVec S10000x10000 32 := broadcastInDim S10000x10000 ![] bcast_S_S10000x10000 main_c_1
  let main_v8 : IVec S10000x10000 1 := cmpi .slt main_v1 main_v7
  let main_v9 : IVec S10000x10000 1 := andi main_v6 main_v8
  (main_v4, main_v4, main_v9)
-- ==== Kernel.lean ====
abbrev S10000x128 : Shape := ⟨2, ![10000, 128]⟩
abbrev S2x320000 : Shape := ⟨2, ![2, 320000]⟩
abbrev S128x64 : Shape := ⟨2, ![128, 64]⟩
abbrev S64x512 : Shape := ⟨2, ![64, 512]⟩
abbrev S8x64 : Shape := ⟨2, ![8, 64]⟩
abbrev S512x128 : Shape := ⟨2, ![512, 128]⟩
abbrev S128 : Shape := ⟨1, ![128]⟩
abbrev S128x1 : Shape := ⟨2, ![128, 1]⟩
abbrev S512x64 : Shape := ⟨2, ![512, 64]⟩
abbrev S10000x64 : Shape := ⟨2, ![10000, 64]⟩
abbrev S1x320000 : Shape := ⟨2, ![1, 320000]⟩
abbrev S320000 : Shape := ⟨1, ![320000]⟩
abbrev S10000x512 : Shape := ⟨2, ![10000, 512]⟩
abbrev S10000x8x64 : Shape := ⟨3, ![10000, 8, 64]⟩
abbrev S1x8x64 : Shape := ⟨3, ![1, 8, 64]⟩
abbrev S_ : Shape := ⟨0, ![]⟩
abbrev S10000x8 : Shape := ⟨2, ![10000, 8]⟩
abbrev S320000x1 : Shape := ⟨2, ![320000, 1]⟩
abbrev S320000x8 : Shape := ⟨2, ![320000, 8]⟩
abbrev S320000x8x64 : Shape := ⟨3, ![320000, 8, 64]⟩
abbrev S320000x8x1 : Shape := ⟨3, ![320000, 8, 1]⟩
abbrev S10000x1x512 : Shape := ⟨3, ![10000, 1, 512]⟩
abbrev S10000x2x512 : Shape := ⟨3, ![10000, 2, 512]⟩
abbrev S10000x2x128 : Shape := ⟨3, ![10000, 2, 128]⟩
abbrev S1x1x128 : Shape := ⟨3, ![1, 1, 128]⟩
abbrev S10000x2x1 : Shape := ⟨3, ![10000, 2, 1]⟩
abbrev S10000x1 : Shape := ⟨2, ![10000, 1]⟩
abbrev S10000x1x1 : Shape := ⟨3, ![10000, 1, 1]⟩
abbrev S10000x10000 : Shape := ⟨2, ![10000, 10000]⟩
abbrev S1024x64 : Shape := ⟨2, ![1024, 64]⟩
abbrev S512x1024 : Shape := ⟨2, ![512, 1024]⟩

abbrev nBuf : Space → Nat
  | .hbm => 475
  | .vmem => 6
  | .smem => 0
  | _ => 0

abbrev hbmTy0_0 (i : Nat) : BufTy := match i % 128 with
  | 0 => ⟨S10000x128, .f32⟩
  | 1 => ⟨S10000x128, .f32⟩
  | 2 => ⟨S2x320000, .i32⟩
  | 3 => ⟨S2x320000, .i32⟩
  | 4 => ⟨S2x320000, .i32⟩
  | 5 => ⟨S2x320000, .i32⟩
  | 6 => ⟨S128x64, .f32⟩
  | 7 => ⟨S64x512, .f32⟩
  | 8 => ⟨S8x64, .f32⟩
  | 9 => ⟨S8x64, .f32⟩
  | 10 => ⟨S8x64, .f32⟩
  | 11 => ⟨S64x512, .f32⟩
  | 12 => ⟨S8x64, .f32⟩
  | 13 => ⟨S8x64, .f32⟩
  | 14 => ⟨S8x64, .f32⟩
  | 15 => ⟨S512x128, .f32⟩
  | 16 => ⟨S128, .f32⟩
  | 17 => ⟨S128x1, .f32⟩
  | 18 => ⟨S512x64, .f32⟩
  | 19 => ⟨S128x64, .f32⟩
  | 20 => ⟨S64x512, .f32⟩
  | 21 => ⟨S8x64, .f32⟩
  | 22 => ⟨S8x64, .f32⟩
  | 23 => ⟨S8x64, .f32⟩
  | 24 => ⟨S64x512, .f32⟩
  | 25 => ⟨S8x64, .f32⟩
  | 26 => ⟨S8x64, .f32⟩
  | 27 => ⟨S8x64, .f32⟩
  | 28 => ⟨S512x128, .f32⟩
  | 29 => ⟨S128, .f32⟩
  | 30 => ⟨S128x1, .f32⟩
  | 31 => ⟨S512x64, .f32⟩
  | 32 => ⟨S10000x64, .f32⟩
  | 33 => ⟨S1x320000, .i32⟩
  | 34 => ⟨S320000, .i32⟩
  | 35 => ⟨S1x320000, .i32⟩
  | 36 => ⟨S320000, .i32⟩
  | 37 => ⟨S10000x512, .f32⟩
  | 38 => ⟨S10000x8x64, .f32⟩
  | 39 => ⟨S1x8x64, .f32⟩
  | 40 => ⟨S10000x8x64, .f32⟩
  | 41 => ⟨S10000x8x64, .f32⟩
  | 42 => ⟨S_, .f32⟩
  | 43 => ⟨S10000x8, .f32⟩
  | 44 => ⟨S1x8x64, .f32⟩
  | 45 => ⟨S10000x8x64, .f32⟩
  | 46 => ⟨S10000x8x64, .f32⟩
  | 47 => ⟨S_, .f32⟩
  | 48 => ⟨S10000x8, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x8, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000x8, .f32⟩
  | 67 => ⟨S320000x8, .f32⟩
  | 68 => ⟨S_, .f32⟩
  | 69 => ⟨S_, .f32⟩
  | 70 => ⟨S320000x8, .f32⟩
  | 71 => ⟨S320000x8, .i1⟩
  | 72 => ⟨S_, .f32⟩
  | 73 => ⟨S320000x8, .f32⟩
  | 74 => ⟨S320000x8, .f32⟩
  | 75 => ⟨S320000x8, .f32⟩
  | 76 => ⟨S320000x8, .f32⟩
  | 77 => ⟨S_, .f32⟩
  | 78 => ⟨S10000x8, .f32⟩
  | 79 => ⟨S320000x1, .i32⟩
  | 80 => ⟨S10000x8, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000x8, .f32⟩
  | 90 => ⟨S_, .f32⟩
  | 91 => ⟨S320000x8, .f32⟩
  | 92 => ⟨S320000x8, .f32⟩
  | 93 => ⟨S320000x8, .f32⟩
  | 94 => ⟨S_, .i32⟩
  | 95 => ⟨S320000, .i32⟩
  | 96 => ⟨S320000, .i1⟩
  | 97 => ⟨S_, .i32⟩
  | 98 => ⟨S320000, .i32⟩
  | 99 => ⟨S320000, .i32⟩
  | 100 => ⟨S320000, .i32⟩
  | 101 => ⟨S320000x1, .i32⟩
  | 102 => ⟨S320000x8x64, .f32⟩
  | 103 => ⟨S320000x8x1, .f32⟩
  | 104 => ⟨S320000x8x64, .f32⟩
  | 105 => ⟨S320000x8x64, .f32⟩
  | 106 => ⟨S_, .f32⟩
  | 107 => ⟨S10000x8x64, .f32⟩
  | 108 => ⟨S320000x1, .i32⟩
  | 109 => ⟨S10000x8x64, .f32⟩
  | 110 => ⟨S1x8x64, .f32⟩
  | 111 => ⟨S10000x8x64, .f32⟩
  | 112 => ⟨S10000x8x64, .f32⟩
  | 113 => ⟨S_, .f32⟩
  | 114 => ⟨S10000x8x64, .f32⟩
  | 115 => ⟨S10000x8x64, .i1⟩
  | 116 => ⟨S_, .f32⟩
  | 117 => ⟨S10000x8x64, .f32⟩
  | 118 => ⟨S10000x8x64, .i1⟩
  | 119 => ⟨S_, .f32⟩
  | 120 => ⟨S_, .f32⟩
  | 121 => ⟨S10000x8x64, .f32⟩
  | 122 => ⟨S10000x8x64, .f32⟩
  | 123 => ⟨S10000x8x64, .f32⟩
  | 124 => ⟨S_, .f32⟩
  | 125 => ⟨S10000x8x64, .f32⟩
  | 126 => ⟨S10000x8x64, .f32⟩
  | 127 => ⟨S10000x8x64, .f32⟩
  | _ => ⟨S10000x128, .f32⟩

abbrev hbmTy0_1 (i : Nat) : BufTy := match i % 128 with
  | 0 => ⟨S10000x512, .f32⟩
  | 1 => ⟨S1x320000, .i32⟩
  | 2 => ⟨S320000, .i32⟩
  | 3 => ⟨S1x320000, .i32⟩
  | 4 => ⟨S320000, .i32⟩
  | 5 => ⟨S10000x512, .f32⟩
  | 6 => ⟨S10000x8x64, .f32⟩
  | 7 => ⟨S1x8x64, .f32⟩
  | 8 => ⟨S10000x8x64, .f32⟩
  | 9 => ⟨S10000x8x64, .f32⟩
  | 10 => ⟨S_, .f32⟩
  | 11 => ⟨S10000x8, .f32⟩
  | 12 => ⟨S1x8x64, .f32⟩
  | 13 => ⟨S10000x8x64, .f32⟩
  | 14 => ⟨S10000x8x64, .f32⟩
  | 15 => ⟨S_, .f32⟩
  | 16 => ⟨S10000x8, .f32⟩
  | 17 => ⟨S_, .i32⟩
  | 18 => ⟨S320000, .i32⟩
  | 19 => ⟨S320000, .i1⟩
  | 20 => ⟨S_, .i32⟩
  | 21 => ⟨S320000, .i32⟩
  | 22 => ⟨S320000, .i32⟩
  | 23 => ⟨S320000, .i32⟩
  | 24 => ⟨S320000x1, .i32⟩
  | 25 => ⟨S320000x8, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000x8, .f32⟩
  | 35 => ⟨S320000x8, .f32⟩
  | 36 => ⟨S_, .f32⟩
  | 37 => ⟨S_, .f32⟩
  | 38 => ⟨S320000x8, .f32⟩
  | 39 => ⟨S320000x8, .i1⟩
  | 40 => ⟨S_, .f32⟩
  | 41 => ⟨S320000x8, .f32⟩
  | 42 => ⟨S320000x8, .f32⟩
  | 43 => ⟨S320000x8, .f32⟩
  | 44 => ⟨S320000x8, .f32⟩
  | 45 => ⟨S_, .f32⟩
  | 46 => ⟨S10000x8, .f32⟩
  | 47 => ⟨S320000x1, .i32⟩
  | 48 => ⟨S10000x8, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x8, .f32⟩
  | 58 => ⟨S_, .f32⟩
  | 59 => ⟨S320000x8, .f32⟩
  | 60 => ⟨S320000x8, .f32⟩
  | 61 => ⟨S320000x8, .f32⟩
  | 62 => ⟨S_, .i32⟩
  | 63 => ⟨S320000, .i32⟩
  | 64 => ⟨S320000, .i1⟩
  | 65 => ⟨S_, .i32⟩
  | 66 => ⟨S320000, .i32⟩
  | 67 => ⟨S320000, .i32⟩
  | 68 => ⟨S320000, .i32⟩
  | 69 => ⟨S320000x1, .i32⟩
  | 70 => ⟨S320000x8x64, .f32⟩
  | 71 => ⟨S320000x8x1, .f32⟩
  | 72 => ⟨S320000x8x64, .f32⟩
  | 73 => ⟨S320000x8x64, .f32⟩
  | 74 => ⟨S_, .f32⟩
  | 75 => ⟨S10000x8x64, .f32⟩
  | 76 => ⟨S320000x1, .i32⟩
  | 77 => ⟨S10000x8x64, .f32⟩
  | 78 => ⟨S1x8x64, .f32⟩
  | 79 => ⟨S10000x8x64, .f32⟩
  | 80 => ⟨S10000x8x64, .f32⟩
  | 81 => ⟨S_, .f32⟩
  | 82 => ⟨S10000x8x64, .f32⟩
  | 83 => ⟨S10000x8x64, .i1⟩
  | 84 => ⟨S_, .f32⟩
  | 85 => ⟨S10000x8x64, .f32⟩
  | 86 => ⟨S10000x8x64, .i1⟩
  | 87 => ⟨S_, .f32⟩
  | 88 => ⟨S_, .f32⟩
  | 89 => ⟨S10000x8x64, .f32⟩
  | 90 => ⟨S10000x8x64, .f32⟩
  | 91 => ⟨S10000x8x64, .f32⟩
  | 92 => ⟨S_, .f32⟩
  | 93 => ⟨S10000x8x64, .f32⟩
  | 94 => ⟨S10000x8x64, .f32⟩
  | 95 => ⟨S10000x8x64, .f32⟩
  | 96 => ⟨S10000x512, .f32⟩
  | 97 => ⟨S10000x1x512, .f32⟩
  | 98 => ⟨S10000x1x512, .f32⟩
  | 99 => ⟨S10000x2x512, .f32⟩
  | 100 => ⟨S10000x2x128, .f32⟩
  | 101 => ⟨S1x1x128, .f32⟩
  | 102 => ⟨S10000x2x128, .f32⟩
  | 103 => ⟨S10000x2x128, .f32⟩
  | 104 => ⟨S10000x2x128, .f32⟩
  | 105 => ⟨S10000x2x1, .f32⟩
  | 106 => ⟨S_, .f32⟩
  | 107 => ⟨S10000x1, .f32⟩
  | 108 => ⟨S_, .f32⟩
  | 109 => ⟨S10000x1, .f32⟩
  | 110 => ⟨S10000x1, .f32⟩
  | 111 => ⟨S10000x1x1, .f32⟩
  | 112 => ⟨S10000x2x1, .f32⟩
  | 113 => ⟨S10000x2x1, .f32⟩
  | 114 => ⟨S10000x2x1, .f32⟩
  | 115 => ⟨S_, .f32⟩
  | 116 => ⟨S10000x1, .f32⟩
  | 117 => ⟨S10000x1x1, .f32⟩
  | 118 => ⟨S10000x2x1, .f32⟩
  | 119 => ⟨S10000x2x1, .f32⟩
  | 120 => ⟨S10000x2x512, .f32⟩
  | 121 => ⟨S10000x2x512, .f32⟩
  | 122 => ⟨S_, .f32⟩
  | 123 => ⟨S10000x512, .f32⟩
  | 124 => ⟨S10000x64, .f32⟩
  | 125 => ⟨S10000x64, .f32⟩
  | 126 => ⟨S1x320000, .i32⟩
  | 127 => ⟨S320000, .i32⟩
  | _ => ⟨S10000x128, .f32⟩

abbrev hbmTy0_2 (i : Nat) : BufTy := match i % 128 with
  | 0 => ⟨S1x320000, .i32⟩
  | 1 => ⟨S320000, .i32⟩
  | 2 => ⟨S10000x512, .f32⟩
  | 3 => ⟨S10000x8x64, .f32⟩
  | 4 => ⟨S1x8x64, .f32⟩
  | 5 => ⟨S10000x8x64, .f32⟩
  | 6 => ⟨S10000x8x64, .f32⟩
  | 7 => ⟨S_, .f32⟩
  | 8 => ⟨S10000x8, .f32⟩
  | 9 => ⟨S1x8x64, .f32⟩
  | 10 => ⟨S10000x8x64, .f32⟩
  | 11 => ⟨S10000x8x64, .f32⟩
  | 12 => ⟨S_, .f32⟩
  | 13 => ⟨S10000x8, .f32⟩
  | 14 => ⟨S_, .i32⟩
  | 15 => ⟨S320000, .i32⟩
  | 16 => ⟨S320000, .i1⟩
  | 17 => ⟨S_, .i32⟩
  | 18 => ⟨S320000, .i32⟩
  | 19 => ⟨S320000, .i32⟩
  | 20 => ⟨S320000, .i32⟩
  | 21 => ⟨S320000x1, .i32⟩
  | 22 => ⟨S320000x8, .f32⟩
  | 23 => ⟨S_, .i32⟩
  | 24 => ⟨S320000, .i32⟩
  | 25 => ⟨S320000, .i1⟩
  | 26 => ⟨S_, .i32⟩
  | 27 => ⟨S320000, .i32⟩
  | 28 => ⟨S320000, .i32⟩
  | 29 => ⟨S320000, .i32⟩
  | 30 => ⟨S320000x1, .i32⟩
  | 31 => ⟨S320000x8, .f32⟩
  | 32 => ⟨S320000x8, .f32⟩
  | 33 => ⟨S_, .f32⟩
  | 34 => ⟨S_, .f32⟩
  | 35 => ⟨S320000x8, .f32⟩
  | 36 => ⟨S320000x8, .i1⟩
  | 37 => ⟨S_, .f32⟩
  | 38 => ⟨S320000x8, .f32⟩
  | 39 => ⟨S320000x8, .f32⟩
  | 40 => ⟨S320000x8, .f32⟩
  | 41 => ⟨S320000x8, .f32⟩
  | 42 => ⟨S_, .f32⟩
  | 43 => ⟨S10000x8, .f32⟩
  | 44 => ⟨S320000x1, .i32⟩
  | 45 => ⟨S10000x8, .f32⟩
  | 46 => ⟨S_, .i32⟩
  | 47 => ⟨S320000, .i32⟩
  | 48 => ⟨S320000, .i1⟩
  | 49 => ⟨S_, .i32⟩
  | 50 => ⟨S320000, .i32⟩
  | 51 => ⟨S320000, .i32⟩
  | 52 => ⟨S320000, .i32⟩
  | 53 => ⟨S320000x1, .i32⟩
  | 54 => ⟨S320000x8, .f32⟩
  | 55 => ⟨S_, .f32⟩
  | 56 => ⟨S320000x8, .f32⟩
  | 57 => ⟨S320000x8, .f32⟩
  | 58 => ⟨S320000x8, .f32⟩
  | 59 => ⟨S_, .i32⟩
  | 60 => ⟨S320000, .i32⟩
  | 61 => ⟨S320000, .i1⟩
  | 62 => ⟨S_, .i32⟩
  | 63 => ⟨S320000, .i32⟩
  | 64 => ⟨S320000, .i32⟩
  | 65 => ⟨S320000, .i32⟩
  | 66 => ⟨S320000x1, .i32⟩
  | 67 => ⟨S320000x8x64, .f32⟩
  | 68 => ⟨S320000x8x1, .f32⟩
  | 69 => ⟨S320000x8x64, .f32⟩
  | 70 => ⟨S320000x8x64, .f32⟩
  | 71 => ⟨S_, .f32⟩
  | 72 => ⟨S10000x8x64, .f32⟩
  | 73 => ⟨S320000x1, .i32⟩
  | 74 => ⟨S10000x8x64, .f32⟩
  | 75 => ⟨S1x8x64, .f32⟩
  | 76 => ⟨S10000x8x64, .f32⟩
  | 77 => ⟨S10000x8x64, .f32⟩
  | 78 => ⟨S_, .f32⟩
  | 79 => ⟨S10000x8x64, .f32⟩
  | 80 => ⟨S10000x8x64, .i1⟩
  | 81 => ⟨S_, .f32⟩
  | 82 => ⟨S10000x8x64, .f32⟩
  | 83 => ⟨S10000x8x64, .i1⟩
  | 84 => ⟨S_, .f32⟩
  | 85 => ⟨S_, .f32⟩
  | 86 => ⟨S10000x8x64, .f32⟩
  | 87 => ⟨S10000x8x64, .f32⟩
  | 88 => ⟨S10000x8x64, .f32⟩
  | 89 => ⟨S_, .f32⟩
  | 90 => ⟨S10000x8x64, .f32⟩
  | 91 => ⟨S10000x8x64, .f32⟩
  | 92 => ⟨S10000x8x64, .f32⟩
  | 93 => ⟨S10000x512, .f32⟩
  | 94 => ⟨S1x320000, .i32⟩
  | 95 => ⟨S320000, .i32⟩
  | 96 => ⟨S1x320000, .i32⟩
  | 97 => ⟨S320000, .i32⟩
  | 98 => ⟨S10000x512, .f32⟩
  | 99 => ⟨S10000x8x64, .f32⟩
  | 100 => ⟨S1x8x64, .f32⟩
  | 101 => ⟨S10000x8x64, .f32⟩
  | 102 => ⟨S10000x8x64, .f32⟩
  | 103 => ⟨S_, .f32⟩
  | 104 => ⟨S10000x8, .f32⟩
  | 105 => ⟨S1x8x64, .f32⟩
  | 106 => ⟨S10000x8x64, .f32⟩
  | 107 => ⟨S10000x8x64, .f32⟩
  | 108 => ⟨S_, .f32⟩
  | 109 => ⟨S10000x8, .f32⟩
  | 110 => ⟨S_, .i32⟩
  | 111 => ⟨S320000, .i32⟩
  | 112 => ⟨S320000, .i1⟩
  | 113 => ⟨S_, .i32⟩
  | 114 => ⟨S320000, .i32⟩
  | 115 => ⟨S320000, .i32⟩
  | 116 => ⟨S320000, .i32⟩
  | 117 => ⟨S320000x1, .i32⟩
  | 118 => ⟨S320000x8, .f32⟩
  | 119 => ⟨S_, .i32⟩
  | 120 => ⟨S320000, .i32⟩
  | 121 => ⟨S320000, .i1⟩
  | 122 => ⟨S_, .i32⟩
  | 123 => ⟨S320000, .i32⟩
  | 124 => ⟨S320000, .i32⟩
  | 125 => ⟨S320000, .i32⟩
  | 126 => ⟨S320000x1, .i32⟩
  | 127 => ⟨S320000x8, .f32⟩
  | _ => ⟨S10000x128, .f32⟩

abbrev hbmTy0_3 (i : Nat) : BufTy := match i % 128 with
  | 0 => ⟨S320000x8, .f32⟩
  | 1 => ⟨S_, .f32⟩
  | 2 => ⟨S_, .f32⟩
  | 3 => ⟨S320000x8, .f32⟩
  | 4 => ⟨S320000x8, .i1⟩
  | 5 => ⟨S_, .f32⟩
  | 6 => ⟨S320000x8, .f32⟩
  | 7 => ⟨S320000x8, .f32⟩
  | 8 => ⟨S320000x8, .f32⟩
  | 9 => ⟨S320000x8, .f32⟩
  | 10 => ⟨S_, .f32⟩
  | 11 => ⟨S10000x8, .f32⟩
  | 12 => ⟨S320000x1, .i32⟩
  | 13 => ⟨S10000x8, .f32⟩
  | 14 => ⟨S_, .i32⟩
  | 15 => ⟨S320000, .i32⟩
  | 16 => ⟨S320000, .i1⟩
  | 17 => ⟨S_, .i32⟩
  | 18 => ⟨S320000, .i32⟩
  | 19 => ⟨S320000, .i32⟩
  | 20 => ⟨S320000, .i32⟩
  | 21 => ⟨S320000x1, .i32⟩
  | 22 => ⟨S320000x8, .f32⟩
  | 23 => ⟨S_, .f32⟩
  | 24 => ⟨S320000x8, .f32⟩
  | 25 => ⟨S320000x8, .f32⟩
  | 26 => ⟨S320000x8, .f32⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x8x64, .f32⟩
  | 36 => ⟨S320000x8x1, .f32⟩
  | 37 => ⟨S320000x8x64, .f32⟩
  | 38 => ⟨S320000x8x64, .f32⟩
  | 39 => ⟨S_, .f32⟩
  | 40 => ⟨S10000x8x64, .f32⟩
  | 41 => ⟨S320000x1, .i32⟩
  | 42 => ⟨S10000x8x64, .f32⟩
  | 43 => ⟨S1x8x64, .f32⟩
  | 44 => ⟨S10000x8x64, .f32⟩
  | 45 => ⟨S10000x8x64, .f32⟩
  | 46 => ⟨S_, .f32⟩
  | 47 => ⟨S10000x8x64, .f32⟩
  | 48 => ⟨S10000x8x64, .i1⟩
  | 49 => ⟨S_, .f32⟩
  | 50 => ⟨S10000x8x64, .f32⟩
  | 51 => ⟨S10000x8x64, .i1⟩
  | 52 => ⟨S_, .f32⟩
  | 53 => ⟨S_, .f32⟩
  | 54 => ⟨S10000x8x64, .f32⟩
  | 55 => ⟨S10000x8x64, .f32⟩
  | 56 => ⟨S10000x8x64, .f32⟩
  | 57 => ⟨S_, .f32⟩
  | 58 => ⟨S10000x8x64, .f32⟩
  | 59 => ⟨S10000x8x64, .f32⟩
  | 60 => ⟨S10000x8x64, .f32⟩
  | 61 => ⟨S10000x512, .f32⟩
  | 62 => ⟨S10000x1x512, .f32⟩
  | 63 => ⟨S10000x1x512, .f32⟩
  | 64 => ⟨S10000x2x512, .f32⟩
  | 65 => ⟨S10000x2x128, .f32⟩
  | 66 => ⟨S1x1x128, .f32⟩
  | 67 => ⟨S10000x2x128, .f32⟩
  | 68 => ⟨S10000x2x128, .f32⟩
  | 69 => ⟨S10000x2x128, .f32⟩
  | 70 => ⟨S10000x2x1, .f32⟩
  | 71 => ⟨S_, .f32⟩
  | 72 => ⟨S10000x1, .f32⟩
  | 73 => ⟨S_, .f32⟩
  | 74 => ⟨S10000x1, .f32⟩
  | 75 => ⟨S10000x1, .f32⟩
  | 76 => ⟨S10000x1x1, .f32⟩
  | 77 => ⟨S10000x2x1, .f32⟩
  | 78 => ⟨S10000x2x1, .f32⟩
  | 79 => ⟨S10000x2x1, .f32⟩
  | 80 => ⟨S_, .f32⟩
  | 81 => ⟨S10000x1, .f32⟩
  | 82 => ⟨S10000x1x1, .f32⟩
  | 83 => ⟨S10000x2x1, .f32⟩
  | 84 => ⟨S10000x2x1, .f32⟩
  | 85 => ⟨S10000x2x512, .f32⟩
  | 86 => ⟨S10000x2x512, .f32⟩
  | 87 => ⟨S_, .f32⟩
  | 88 => ⟨S10000x512, .f32⟩
  | 89 => ⟨S10000x64, .f32⟩
  | 90 => ⟨S10000x10000, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | _ => ⟨S10000x128, .f32⟩

abbrev bufTy : (tb : Table) → Fin (tcTables nBuf tb) → BufTy
  | .hbm, ⟨i, _⟩ => hbmTy i
  | .local _ .vmem, ⟨0, _⟩ => ⟨S512x64, .f32⟩
  | .local _ .vmem, ⟨1, _⟩ => ⟨S512x64, .f32⟩
  | .local _ .vmem, ⟨2, _⟩ => ⟨S1024x64, .f32⟩
  | .local _ .vmem, ⟨3, _⟩ => ⟨S1024x64, .f32⟩
  | .local _ .vmem, ⟨4, _⟩ => ⟨S512x1024, .f32⟩
  | .local _ .vmem, ⟨5, _⟩ => ⟨S512x1024, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_0 : Ref sig .tc := ⟨.hbm, 47, rfl⟩
abbrev main_v14 : Ref sig .tc := ⟨.hbm, 48, rfl⟩
abbrev main_c : Ref sig .tc := ⟨.hbm, 49, rfl⟩
abbrev main_v15 : Ref sig .tc := ⟨.hbm, 50, rfl⟩
abbrev main_v16 : Ref sig .tc := ⟨.hbm, 51, rfl⟩
abbrev main_c_1 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_c_2 : Ref sig .tc := ⟨.hbm, 58, rfl⟩
abbrev main_v22 : Ref sig .tc := ⟨.hbm, 59, rfl⟩
abbrev main_v23 : Ref sig .tc := ⟨.hbm, 60, rfl⟩
abbrev main_c_3 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_4 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v30 : Ref sig .tc := ⟨.hbm, 75, rfl⟩
abbrev main_v31 : Ref sig .tc := ⟨.hbm, 76, rfl⟩
abbrev main_cst_5 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_c_6 : Ref sig .tc := ⟨.hbm, 81, rfl⟩
abbrev main_v35 : Ref sig .tc := ⟨.hbm, 82, rfl⟩
abbrev main_v36 : Ref sig .tc := ⟨.hbm, 83, rfl⟩
abbrev main_c_7 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_8 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_c_9 : Ref sig .tc := ⟨.hbm, 94, rfl⟩
abbrev main_v45 : Ref sig .tc := ⟨.hbm, 95, rfl⟩
abbrev main_v46 : Ref sig .tc := ⟨.hbm, 96, rfl⟩
abbrev main_c_10 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_cst_11 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_call1_cst : Ref sig .tc := ⟨.hbm, 113, rfl⟩
abbrev main_call1_v0 : Ref sig .tc := ⟨.hbm, 114, rfl⟩
abbrev main_call1_v1 : Ref sig .tc := ⟨.hbm, 115, rfl⟩
abbrev main_call1_cst_0 : Ref sig .tc := ⟨.hbm, 116, rfl⟩
abbrev main_call1_v2 : Ref sig .tc := ⟨.hbm, 117, rfl⟩
abbrev main_call1_v3 : Ref sig .tc := ⟨.hbm, 118, rfl⟩
abbrev main_call1_cst_1 : Ref sig .tc := ⟨.hbm, 119, rfl⟩
abbrev main_call1_call0_v0 : Ref sig .tc := ⟨.hbm, 120, rfl⟩
abbrev main_call1_call0_v1 : Ref sig .tc := ⟨.hbm, 121, rfl⟩
abbrev main_call1_v4 : Ref sig .tc := ⟨.hbm, 122, rfl⟩
abbrev main_call1_v5 : Ref sig .tc := ⟨.hbm, 123, rfl⟩
abbrev main_call1_cst_2 : Ref sig .tc := ⟨.hbm, 124, rfl⟩
abbrev main_call1_v6 : Ref sig .tc := ⟨.hbm, 125, rfl⟩
abbrev main_call1_v7 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_cst_12 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_cst_13 : Ref sig .tc := ⟨.hbm, 143, rfl⟩
abbrev main_v76 : Ref sig .tc := ⟨.hbm, 144, rfl⟩
abbrev main_c_14 : Ref sig .tc := ⟨.hbm, 145, rfl⟩
abbrev main_v77 : Ref sig .tc := ⟨.hbm, 146, rfl⟩
abbrev main_v78 : Ref sig .tc := ⟨.hbm, 147, rfl⟩
abbrev main_c_15 : Ref sig .tc := ⟨.hbm, 148, rfl⟩
abbrev main_v79 : Ref sig .tc := ⟨.hbm, 149, rfl⟩
abbrev main_v80 : Ref sig .tc := ⟨.hbm, 150, rfl⟩
abbrev main_v81 : Ref sig .tc := ⟨.hbm, 151, rfl⟩
abbrev main_v82 : Ref sig .tc := ⟨.hbm, 152, rfl⟩
abbrev main_v83 : Ref sig .tc := ⟨.hbm, 153, rfl⟩
abbrev main_c_16 : Ref sig .tc := ⟨.hbm, 154, rfl⟩
abbrev main_v84 : Ref sig .tc := ⟨.hbm, 155, rfl⟩
abbrev main_v85 : Ref sig .tc := ⟨.hbm, 156, rfl⟩
abbrev main_c_17 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_cst_18 : Ref sig .tc := ⟨.hbm, 164, rfl⟩
abbrev main_call2_cst : Ref sig .tc := ⟨.hbm, 165, rfl⟩
abbrev main_call2_v0 : Ref sig .tc := ⟨.hbm, 166, rfl⟩
abbrev main_call2_v1 : Ref sig .tc := ⟨.hbm, 167, rfl⟩
abbrev main_call2_v2 : Ref sig .tc := ⟨.hbm, 168, rfl⟩
abbrev main_call2_v3 : Ref sig .tc := ⟨.hbm, 169, rfl⟩
abbrev main_call2_v4 : Ref sig .tc := ⟨.hbm, 170, rfl⟩
abbrev main_v92 : Ref sig .tc := ⟨.hbm, 171, rfl⟩
abbrev main_v93 : Ref sig .tc := ⟨.hbm, 172, rfl⟩
abbrev main_cst_19 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_c_20 : Ref sig .tc := ⟨.hbm, 177, rfl⟩
abbrev main_v97 : Ref sig .tc := ⟨.hbm, 178, rfl⟩
abbrev main_v98 : Ref sig .tc := ⟨.hbm, 179, rfl⟩
abbrev main_c_21 : Ref sig .tc := ⟨.hbm, 180, rfl⟩
abbrev main_v99 : Ref sig .tc := ⟨.hbm, 181, rfl⟩
abbrev main_v100 : Ref sig .tc := ⟨.hbm, 182, rfl⟩
abbrev main_v101 : Ref sig .tc := ⟨.hbm, 183, rfl⟩
abbrev main_v102 : Ref sig .tc := ⟨.hbm, 184, rfl⟩
abbrev main_v103 : Ref sig .tc := ⟨.hbm, 185, rfl⟩
abbrev main_cst_22 : Ref sig .tc := ⟨.hbm, 186, rfl⟩
abbrev main_v104 : Ref sig .tc := ⟨.hbm, 187, rfl⟩
abbrev main_v105 : Ref sig .tc := ⟨.hbm, 188, rfl⟩
abbrev main_v106 : Ref sig .tc := ⟨.hbm, 189, rfl⟩
abbrev main_c_23 : Ref sig .tc := ⟨.hbm, 190, rfl⟩
abbrev main_v107 : Ref sig .tc := ⟨.hbm, 191, rfl⟩
abbrev main_v108 : Ref sig .tc := ⟨.hbm, 192, rfl⟩
abbrev main_c_24 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_v115 : Ref sig .tc := ⟨.hbm, 200, rfl⟩
abbrev main_v116 : Ref sig .tc := ⟨.hbm, 201, rfl⟩
abbrev main_cst_25 : Ref sig .tc := ⟨.hbm, 202, rfl⟩
abbrev main_v117 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_call3_cst : Ref sig .tc := ⟨.hbm, 209, rfl⟩
abbrev main_call3_v0 : Ref sig .tc := ⟨.hbm, 210, rfl⟩
abbrev main_call3_v1 : Ref sig .tc := ⟨.hbm, 211, rfl⟩
abbrev main_call3_cst_0 : Ref sig .tc := ⟨.hbm, 212, rfl⟩
abbrev main_call3_v2 : Ref sig .tc := ⟨.hbm, 213, rfl⟩
abbrev main_call3_v3 : Ref sig .tc := ⟨.hbm, 214, rfl⟩
abbrev main_call3_cst_1 : Ref sig .tc := ⟨.hbm, 215, rfl⟩
abbrev main_call3_call0_v0 : Ref sig .tc := ⟨.hbm, 216, rfl⟩
abbrev main_call3_call0_v1 : Ref sig .tc := ⟨.hbm, 217, rfl⟩
abbrev main_call3_v4 : Ref sig .tc := ⟨.hbm, 218, rfl⟩
abbrev main_call3_v5 : Ref sig .tc := ⟨.hbm, 219, rfl⟩
abbrev main_call3_cst_2 : Ref sig .tc := ⟨.hbm, 220, rfl⟩
abbrev main_call3_v6 : Ref sig .tc := ⟨.hbm, 221, rfl⟩
abbrev main_call3_v7 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_v127 : Ref sig .tc := ⟨.hbm, 227, rfl⟩
abbrev main_v128 : Ref sig .tc := ⟨.hbm, 228, rfl⟩
abbrev main_v129 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_cst_26 : Ref sig .tc := ⟨.hbm, 234, rfl⟩
abbrev main_v134 : Ref sig .tc := ⟨.hbm, 235, rfl⟩
abbrev main_cst_27 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_cst_28 : Ref sig .tc := ⟨.hbm, 243, rfl⟩
abbrev main_v141 : Ref sig .tc := ⟨.hbm, 244, rfl⟩
abbrev main_v142 : Ref sig .tc := ⟨.hbm, 245, rfl⟩
abbrev main_v143 : Ref sig .tc := ⟨.hbm, 246, rfl⟩
abbrev main_v144 : Ref sig .tc := ⟨.hbm, 247, rfl⟩
abbrev main_v145 : Ref sig .tc := ⟨.hbm, 248, rfl⟩
abbrev main_v146 : Ref sig .tc := ⟨.hbm, 249, rfl⟩
abbrev main_cst_29 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_v154 : Ref sig .tc := ⟨.hbm, 258, rfl⟩
abbrev main_v155 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_cst_30 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_v162 : Ref sig .tc := ⟨.hbm, 267, rfl⟩
abbrev main_cst_31 : Ref sig .tc := ⟨.hbm, 268, rfl⟩
abbrev main_v163 : Ref sig .tc := ⟨.hbm, 269, rfl⟩
abbrev main_c_32 : Ref sig .tc := ⟨.hbm, 270, rfl⟩
abbrev main_v164 : Ref sig .tc := ⟨.hbm, 271, rfl⟩
abbrev main_v165 : Ref sig .tc := ⟨.hbm, 272, rfl⟩
abbrev main_c_33 : Ref sig .tc := ⟨.hbm, 273, rfl⟩
abbrev main_v166 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_v170 : Ref sig .tc := ⟨.hbm, 278, rfl⟩
abbrev main_c_34 : Ref sig .tc := ⟨.hbm, 279, rfl⟩
abbrev main_v171 : Ref sig .tc := ⟨.hbm, 280, rfl⟩
abbrev main_v172 : Ref sig .tc := ⟨.hbm, 281, rfl⟩
abbrev main_c_35 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_cst_36 : Ref sig .tc := ⟨.hbm, 289, rfl⟩
abbrev main_call4_cst : Ref sig .tc := ⟨.hbm, 290, rfl⟩
abbrev main_call4_v0 : Ref sig .tc := ⟨.hbm, 291, rfl⟩
abbrev main_call4_v1 : Ref sig .tc := ⟨.hbm, 292, rfl⟩
abbrev main_call4_v2 : Ref sig .tc := ⟨.hbm, 293, rfl⟩
abbrev main_call4_v3 : Ref sig .tc := ⟨.hbm, 294, rfl⟩
abbrev main_call4_v4 : Ref sig .tc := ⟨.hbm, 295, rfl⟩
abbrev main_v179 : Ref sig .tc := ⟨.hbm, 296, rfl⟩
abbrev main_v180 : Ref sig .tc := ⟨.hbm, 297, rfl⟩
abbrev main_cst_37 : Ref sig .tc := ⟨.hbm, 298, rfl⟩
abbrev main_v181 : Ref sig .tc := ⟨.hbm, 299, rfl⟩
abbrev main_v182 : Ref sig .tc := ⟨.hbm, 300, rfl⟩
abbrev main_v183 : Ref sig .tc := ⟨.hbm, 301, rfl⟩
abbrev main_c_38 : Ref sig .tc := ⟨.hbm, 302, rfl⟩
abbrev main_v184 : Ref sig .tc := ⟨.hbm, 303, rfl⟩
abbrev main_v185 : Ref sig .tc := ⟨.hbm, 304, rfl⟩
abbrev main_c_39 : Ref sig .tc := ⟨.hbm, 305, rfl⟩
abbrev main_v186 : Ref sig .tc := ⟨.hbm, 306, rfl⟩
abbrev main_v187 : Ref sig .tc := ⟨.hbm, 307, rfl⟩
abbrev main_v188 : Ref sig .tc := ⟨.hbm, 308, rfl⟩
abbrev main_v189 : Ref sig .tc := ⟨.hbm, 309, rfl⟩
abbrev main_v190 : Ref sig .tc := ⟨.hbm, 310, rfl⟩
abbrev main_cst_40 : Ref sig .tc := ⟨.hbm, 311, rfl⟩
abbrev main_v191 : Ref sig .tc := ⟨.hbm, 312, rfl⟩
abbrev main_v192 : Ref sig .tc := ⟨.hbm, 313, rfl⟩
abbrev main_v193 : Ref sig .tc := ⟨.hbm, 314, rfl⟩
abbrev main_c_41 : Ref sig .tc := ⟨.hbm, 315, rfl⟩
abbrev main_v194 : Ref sig .tc := ⟨.hbm, 316, rfl⟩
abbrev main_v195 : Ref sig .tc := ⟨.hbm, 317, rfl⟩
abbrev main_c_42 : Ref sig .tc := ⟨.hbm, 318, rfl⟩
abbrev main_v196 : Ref sig .tc := ⟨.hbm, 319, rfl⟩
abbrev main_v197 : Ref sig .tc := ⟨.hbm, 320, rfl⟩
abbrev main_v198 : Ref sig .tc := ⟨.hbm, 321, rfl⟩
abbrev main_v199 : Ref sig .tc := ⟨.hbm, 322, rfl⟩
abbrev main_v200 : Ref sig .tc := ⟨.hbm, 323, rfl⟩
abbrev main_v201 : Ref sig .tc := ⟨.hbm, 324, rfl⟩
abbrev main_v202 : Ref sig .tc := ⟨.hbm, 325, rfl⟩
abbrev main_v203 : Ref sig .tc := ⟨.hbm, 326, rfl⟩
abbrev main_cst_43 : Ref sig .tc := ⟨.hbm, 327, rfl⟩
abbrev main_v204 : Ref sig .tc := ⟨.hbm, 328, rfl⟩
abbrev main_v205 : Ref sig .tc := ⟨.hbm, 329, rfl⟩
abbrev main_v206 : Ref sig .tc := ⟨.hbm, 330, rfl⟩
abbrev main_v207 : Ref sig .tc := ⟨.hbm, 331, rfl⟩
abbrev main_v208 : Ref sig .tc := ⟨.hbm, 332, rfl⟩
abbrev main_v209 : Ref sig .tc := ⟨.hbm, 333, rfl⟩
abbrev main_call5_cst : Ref sig .tc := ⟨.hbm, 334, rfl⟩
abbrev main_call5_v0 : Ref sig .tc := ⟨.hbm, 335, rfl⟩
abbrev main_call5_v1 : Ref sig .tc := ⟨.hbm, 336, rfl⟩
abbrev main_call5_cst_0 : Ref sig .tc := ⟨.hbm, 337, rfl⟩
abbrev main_call5_v2 : Ref sig .tc := ⟨.hbm, 338, rfl⟩
abbrev main_call5_v3 : Ref sig .tc := ⟨.hbm, 339, rfl⟩
abbrev main_call5_cst_1 : Ref sig .tc := ⟨.hbm, 340, rfl⟩
abbrev main_call5_call0_v0 : Ref sig .tc := ⟨.hbm, 341, rfl⟩
abbrev main_call5_call0_v1 : Ref sig .tc := ⟨.hbm, 342, rfl⟩
abbrev main_call5_v4 : Ref sig .tc := ⟨.hbm, 343, rfl⟩
abbrev main_call5_v5 : Ref sig .tc := ⟨.hbm, 344, rfl⟩
abbrev main_call5_cst_2 : Ref sig .tc := ⟨.hbm, 345, rfl⟩
abbrev main_call5_v6 : Ref sig .tc := ⟨.hbm, 346, rfl⟩
abbrev main_call5_v7 : Ref sig .tc := ⟨.hbm, 347, rfl⟩
abbrev main_v210 : Ref sig .tc := ⟨.hbm, 348, rfl⟩
abbrev main_v211 : Ref sig .tc := ⟨.hbm, 349, rfl⟩
abbrev main_v212 : Ref sig .tc := ⟨.hbm, 350, rfl⟩
abbrev main_v213 : Ref sig .tc := ⟨.hbm, 351, rfl⟩
abbrev main_v214 : Ref sig .tc := ⟨.hbm, 352, rfl⟩
abbrev main_v215 : Ref sig .tc := ⟨.hbm, 353, rfl⟩
abbrev main_v216 : Ref sig .tc := ⟨.hbm, 354, rfl⟩
abbrev main_v217 : Ref sig .tc := ⟨.hbm, 355, rfl⟩
abbrev main_v218 : Ref sig .tc := ⟨.hbm, 356, rfl⟩
abbrev main_v219 : Ref sig .tc := ⟨.hbm, 357, rfl⟩
abbrev main_v220 : Ref sig .tc := ⟨.hbm, 358, rfl⟩
abbrev main_cst_44 : Ref sig .tc := ⟨.hbm, 359, rfl⟩
abbrev main_v221 : Ref sig .tc := ⟨.hbm, 360, rfl⟩
abbrev main_v222 : Ref sig .tc := ⟨.hbm, 361, rfl⟩
abbrev main_v223 : Ref sig .tc := ⟨.hbm, 362, rfl⟩
abbrev main_v224 : Ref sig .tc := ⟨.hbm, 363, rfl⟩
abbrev main_cst_45 : Ref sig .tc := ⟨.hbm, 364, rfl⟩
abbrev main_v225 : Ref sig .tc := ⟨.hbm, 365, rfl⟩
abbrev main_c_46 : Ref sig .tc := ⟨.hbm, 366, rfl⟩
abbrev main_v226 : Ref sig .tc := ⟨.hbm, 367, rfl⟩
abbrev main_v227 : Ref sig .tc := ⟨.hbm, 368, rfl⟩
abbrev main_c_47 : Ref sig .tc := ⟨.hbm, 369, rfl⟩
abbrev main_v228 : Ref sig .tc := ⟨.hbm, 370, rfl⟩
abbrev main_v229 : Ref sig .tc := ⟨.hbm, 371, rfl⟩
abbrev main_v230 : Ref sig .tc := ⟨.hbm, 372, rfl⟩
abbrev main_v231 : Ref sig .tc := ⟨.hbm, 373, rfl⟩
abbrev main_v232 : Ref sig .tc := ⟨.hbm, 374, rfl⟩
abbrev main_c_48 : Ref sig .tc := ⟨.hbm, 375, rfl⟩
abbrev main_v233 : Ref sig .tc := ⟨.hbm, 376, rfl⟩
abbrev main_v234 : Ref sig .tc := ⟨.hbm, 377, rfl⟩
abbrev main_c_49 : Ref sig .tc := ⟨.hbm, 378, rfl⟩
abbrev main_v235 : Ref sig .tc := ⟨.hbm, 379, rfl⟩
abbrev main_v236 : Ref sig .tc := ⟨.hbm, 380, rfl⟩
abbrev main_v237 : Ref sig .tc := ⟨.hbm, 381, rfl⟩
abbrev main_v238 : Ref sig .tc := ⟨.hbm, 382, rfl⟩
abbrev main_v239 : Ref sig .tc := ⟨.hbm, 383, rfl⟩
abbrev main_v240 : Ref sig .tc := ⟨.hbm, 384, rfl⟩
abbrev main_cst_50 : Ref sig .tc := ⟨.hbm, 385, rfl⟩
abbrev main_call6_cst : Ref sig .tc := ⟨.hbm, 386, rfl⟩
abbrev main_call6_v0 : Ref sig .tc := ⟨.hbm, 387, rfl⟩
abbrev main_call6_v1 : Ref sig .tc := ⟨.hbm, 388, rfl⟩
abbrev main_call6_v2 : Ref sig .tc := ⟨.hbm, 389, rfl⟩
abbrev main_call6_v3 : Ref sig .tc := ⟨.hbm, 390, rfl⟩
abbrev main_call6_v4 : Ref sig .tc := ⟨.hbm, 391, rfl⟩
abbrev main_v241 : Ref sig .tc := ⟨.hbm, 392, rfl⟩
abbrev main_v242 : Ref sig .tc := ⟨.hbm, 393, rfl⟩
abbrev main_cst_51 : Ref sig .tc := ⟨.hbm, 394, rfl⟩
abbrev main_v243 : Ref sig .tc := ⟨.hbm, 395, rfl⟩
abbrev main_v244 : Ref sig .tc := ⟨.hbm, 396, rfl⟩
abbrev main_v245 : Ref sig .tc := ⟨.hbm, 397, rfl⟩
abbrev main_c_52 : Ref sig .tc := ⟨.hbm, 398, rfl⟩
abbrev main_v246 : Ref sig .tc := ⟨.hbm, 399, rfl⟩
abbrev main_v247 : Ref sig .tc := ⟨.hbm, 400, rfl⟩
abbrev main_c_53 : Ref sig .tc := ⟨.hbm, 401, rfl⟩
abbrev main_v248 : Ref sig .tc := ⟨.hbm, 402, rfl⟩
abbrev main_v249 : Ref sig .tc := ⟨.hbm, 403, rfl⟩
abbrev main_v250 : Ref sig .tc := ⟨.hbm, 404, rfl⟩
abbrev main_v251 : Ref sig .tc := ⟨.hbm, 405, rfl⟩
abbrev main_v252 : Ref sig .tc := ⟨.hbm, 406, rfl⟩
abbrev main_cst_54 : Ref sig .tc := ⟨.hbm, 407, rfl⟩
abbrev main_v253 : Ref sig .tc := ⟨.hbm, 408, rfl⟩
abbrev main_v254 : Ref sig .tc := ⟨.hbm, 409, rfl⟩
abbrev main_v255 : Ref sig .tc := ⟨.hbm, 410, rfl⟩
abbrev main_c_55 : Ref sig .tc := ⟨.hbm, 411, rfl⟩
abbrev main_v256 : Ref sig .tc := ⟨.hbm, 412, rfl⟩
abbrev main_v257 : Ref sig .tc := ⟨.hbm, 413, rfl⟩
abbrev main_c_56 : Ref sig .tc := ⟨.hbm, 414, rfl⟩
abbrev main_v258 : Ref sig .tc := ⟨.hbm, 415, rfl⟩
abbrev main_v259 : Ref sig .tc := ⟨.hbm, 416, rfl⟩
abbrev main_v260 : Ref sig .tc := ⟨.hbm, 417, rfl⟩
abbrev main_v261 : Ref sig .tc := ⟨.hbm, 418, rfl⟩
abbrev main_v262 : Ref sig .tc := ⟨.hbm, 419, rfl⟩
abbrev main_v263 : Ref sig .tc := ⟨.hbm, 420, rfl⟩
abbrev main_v264 : Ref sig .tc := ⟨.hbm, 421, rfl⟩
abbrev main_v265 : Ref sig .tc := ⟨.hbm, 422, rfl⟩
abbrev main_cst_57 : Ref sig .tc := ⟨.hbm, 423, rfl⟩
abbrev main_v266 : Ref sig .tc := ⟨.hbm, 424, rfl⟩
abbrev main_v267 : Ref sig .tc := ⟨.hbm, 425, rfl⟩
abbrev main_v268 : Ref sig .tc := ⟨.hbm, 426, rfl⟩
abbrev main_v269 : Ref sig .tc := ⟨.hbm, 427, rfl⟩
abbrev main_v270 : Ref sig .tc := ⟨.hbm, 428, rfl⟩
abbrev main_v271 : Ref sig .tc := ⟨.hbm, 429, rfl⟩
abbrev main_call7_cst : Ref sig .tc := ⟨.hbm, 430, rfl⟩
abbrev main_call7_v0 : Ref sig .tc := ⟨.hbm, 431, rfl⟩
abbrev main_call7_v1 : Ref sig .tc := ⟨.hbm, 432, rfl⟩
abbrev main_call7_cst_0 : Ref sig .tc := ⟨.hbm, 433, rfl⟩
abbrev main_call7_v2 : Ref sig .tc := ⟨.hbm, 434, rfl⟩
abbrev main_call7_v3 : Ref sig .tc := ⟨.hbm, 435, rfl⟩
abbrev main_call7_cst_1 : Ref sig .tc := ⟨.hbm, 436, rfl⟩
abbrev main_call7_call0_v0 : Ref sig .tc := ⟨.hbm, 437, rfl⟩
abbrev main_call7_call0_v1 : Ref sig .tc := ⟨.hbm, 438, rfl⟩
abbrev main_call7_v4 : Ref sig .tc := ⟨.hbm, 439, rfl⟩
abbrev main_call7_v5 : Ref sig .tc := ⟨.hbm, 440, rfl⟩
abbrev main_call7_cst_2 : Ref sig .tc := ⟨.hbm, 441, rfl⟩
abbrev main_call7_v6 : Ref sig .tc := ⟨.hbm, 442, rfl⟩
abbrev main_call7_v7 : Ref sig .tc := ⟨.hbm, 443, rfl⟩
abbrev main_v272 : Ref sig .tc := ⟨.hbm, 444, rfl⟩
abbrev main_v273 : Ref sig .tc := ⟨.hbm, 445, rfl⟩
abbrev main_v274 : Ref sig .tc := ⟨.hbm, 446, rfl⟩
abbrev main_v275 : Ref sig .tc := ⟨.hbm, 447, rfl⟩
abbrev main_v276 : Ref sig .tc := ⟨.hbm, 448, rfl⟩
abbrev main_v277 : Ref sig .tc := ⟨.hbm, 449, rfl⟩
abbrev main_v278 : Ref sig .tc := ⟨.hbm, 450, rfl⟩
abbrev main_v279 : Ref sig .tc := ⟨.hbm, 451, rfl⟩
abbrev main_v280 : Ref sig .tc := ⟨.hbm, 452, rfl⟩
abbrev main_v281 : Ref sig .tc := ⟨.hbm, 453, rfl⟩
abbrev main_v282 : Ref sig .tc := ⟨.hbm, 454, rfl⟩
abbrev main_cst_58 : Ref sig .tc := ⟨.hbm, 455, rfl⟩
abbrev main_v283 : Ref sig .tc := ⟨.hbm, 456, rfl⟩
abbrev main_cst_59 : Ref sig .tc := ⟨.hbm, 457, rfl⟩
abbrev main_v284 : Ref sig .tc := ⟨.hbm, 458, rfl⟩
abbrev main_v285 : Ref sig .tc := ⟨.hbm, 459, rfl⟩
abbrev main_v286 : Ref sig .tc := ⟨.hbm, 460, rfl⟩
abbrev main_v287 : Ref sig .tc := ⟨.hbm, 461, rfl⟩
abbrev main_v288 : Ref sig .tc := ⟨.hbm, 462, rfl⟩
abbrev main_v289 : Ref sig .tc := ⟨.hbm, 463, rfl⟩
abbrev main_cst_60 : Ref sig .tc := ⟨.hbm, 464, rfl⟩
abbrev main_v290 : Ref sig .tc := ⟨.hbm, 465, rfl⟩
abbrev main_v291 : Ref sig .tc := ⟨.hbm, 466, rfl⟩
abbrev main_v292 : Ref sig .tc := ⟨.hbm, 467, rfl⟩
abbrev main_v293 : Ref sig .tc := ⟨.hbm, 468, rfl⟩
abbrev main_v294 : Ref sig .tc := ⟨.hbm, 469, rfl⟩
abbrev main_v295 : Ref sig .tc := ⟨.hbm, 470, rfl⟩
abbrev main_cst_61 : Ref sig .tc := ⟨.hbm, 471, rfl⟩
abbrev main_v296 : Ref sig .tc := ⟨.hbm, 472, rfl⟩
abbrev main_v297 : Ref sig .tc := ⟨.hbm, 473, rfl⟩
abbrev main_v298 : Ref sig .tc := ⟨.hbm, 474, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![19, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S10000x128 : Shape := ⟨2, ![10000, 128]⟩
abbrev S2x320000 : Shape := ⟨2, ![2, 320000]⟩
abbrev S128x64 : Shape := ⟨2, ![128, 64]⟩
abbrev S64x512 : Shape := ⟨2, ![64, 512]⟩
abbrev S8x64 : Shape := ⟨2, ![8, 64]⟩
abbrev S512x128 : Shape := ⟨2, ![512, 128]⟩
abbrev S128 : Shape := ⟨1, ![128]⟩
abbrev S128x1 : Shape := ⟨2, ![128, 1]⟩
abbrev S512x64 : Shape := ⟨2, ![512, 64]⟩
abbrev S10000x64 : Shape := ⟨2, ![10000, 64]⟩
abbrev S1x320000 : Shape := ⟨2, ![1, 320000]⟩
abbrev S320000 : Shape := ⟨1, ![320000]⟩
abbrev S10000x512 : Shape := ⟨2, ![10000, 512]⟩
abbrev S10000x8x64 : Shape := ⟨3, ![10000, 8, 64]⟩
abbrev S1x8x64 : Shape := ⟨3, ![1, 8, 64]⟩
abbrev S_ : Shape := ⟨0, ![]⟩
abbrev S10000x8 : Shape := ⟨2, ![10000, 8]⟩
abbrev S320000x1 : Shape := ⟨2, ![320000, 1]⟩
abbrev S320000x8 : Shape := ⟨2, ![320000, 8]⟩
abbrev S10000 : Shape := ⟨1, ![10000]⟩
abbrev S10000x1 : Shape := ⟨2, ![10000, 1]⟩
abbrev S10000x320000 : Shape := ⟨2, ![10000, 320000]⟩
abbrev S10000x320000x1 : Shape := ⟨3, ![10000, 320000, 1]⟩
abbrev S1x320000x8 : Shape := ⟨3, ![1, 320000, 8]⟩
abbrev S10000x320000x8 : Shape := ⟨3, ![10000, 320000, 8]⟩
abbrev S320000x8x64 : Shape := ⟨3, ![320000, 8, 64]⟩
abbrev S320000x8x1 : Shape := ⟨3, ![320000, 8, 1]⟩
abbrev S10000x1x512 : Shape := ⟨3, ![10000, 1, 512]⟩
abbrev S10000x2x512 : Shape := ⟨3, ![10000, 2, 512]⟩
abbrev S10000x2x128 : Shape := ⟨3, ![10000, 2, 128]⟩
abbrev S1x1x128 : Shape := ⟨3, ![1, 1, 128]⟩
abbrev S10000x2x1 : Shape := ⟨3, ![10000, 2, 1]⟩
abbrev S10000x1x1 : Shape := ⟨3, ![10000, 1, 1]⟩
abbrev S64x10000 : Shape := ⟨2, ![64, 10000]⟩
abbrev S10000x10000 : Shape := ⟨2, ![10000, 10000]⟩

abbrev nBuf : Space → Nat
  | .hbm => 660
  | .vmem => 0
  | .smem => 0
  | _ => 0

abbrev hbmTy0_0 (i : Nat) : BufTy := match i % 128 with
  | 0 => ⟨S10000x128, .f32⟩
  | 1 => ⟨S10000x128, .f32⟩
  | 2 => ⟨S2x320000, .i32⟩
  | 3 => ⟨S2x320000, .i32⟩
  | 4 => ⟨S2x320000, .i32⟩
  | 5 => ⟨S2x320000, .i32⟩
  | 6 => ⟨S128x64, .f32⟩
  | 7 => ⟨S64x512, .f32⟩
  | 8 => ⟨S8x64, .f32⟩
  | 9 => ⟨S8x64, .f32⟩
  | 10 => ⟨S8x64, .f32⟩
  | 11 => ⟨S64x512, .f32⟩
  | 12 => ⟨S8x64, .f32⟩
  | 13 => ⟨S8x64, .f32⟩
  | 14 => ⟨S8x64, .f32⟩
  | 15 => ⟨S512x128, .f32⟩
  | 16 => ⟨S128, .f32⟩
  | 17 => ⟨S128x1, .f32⟩
  | 18 => ⟨S512x64, .f32⟩
  | 19 => ⟨S128x64, .f32⟩
  | 20 => ⟨S64x512, .f32⟩
  | 21 => ⟨S8x64, .f32⟩
  | 22 => ⟨S8x64, .f32⟩
  | 23 => ⟨S8x64, .f32⟩
  | 24 => ⟨S64x512, .f32⟩
  | 25 => ⟨S8x64, .f32⟩
  | 26 => ⟨S8x64, .f32⟩
  | 27 => ⟨S8x64, .f32⟩
  | 28 => ⟨S512x128, .f32⟩
  | 29 => ⟨S128, .f32⟩
  | 30 => ⟨S128x1, .f32⟩
  | 31 => ⟨S512x64, .f32⟩
  | 32 => ⟨S10000x64, .f32⟩
  | 33 => ⟨S1x320000, .i32⟩
  | 34 => ⟨S320000, .i32⟩
  | 35 => ⟨S1x320000, .i32⟩
  | 36 => ⟨S320000, .i32⟩
  | 37 => ⟨S10000x512, .f32⟩
  | 38 => ⟨S10000x8x64, .f32⟩
  | 39 => ⟨S1x8x64, .f32⟩
  | 40 => ⟨S10000x8x64, .f32⟩
  | 41 => ⟨S10000x8x64, .f32⟩
  | 42 => ⟨S_, .f32⟩
  | 43 => ⟨S10000x8, .f32⟩
  | 44 => ⟨S1x8x64, .f32⟩
  | 45 => ⟨S10000x8x64, .f32⟩
  | 46 => ⟨S10000x8x64, .f32⟩
  | 47 => ⟨S_, .f32⟩
  | 48 => ⟨S10000x8, .f32⟩
  | 49 => ⟨S_, .i32⟩
  | 50 => ⟨S320000, .i32⟩
  | 51 => ⟨S320000, .i1⟩
  | 52 => ⟨S_, .i32⟩
  | 53 => ⟨S320000, .i32⟩
  | 54 => ⟨S320000, .i32⟩
  | 55 => ⟨S320000, .i32⟩
  | 56 => ⟨S320000x1, .i32⟩
  | 57 => ⟨S320000x8, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000x8, .f32⟩
  | 67 => ⟨S320000x8, .f32⟩
  | 68 => ⟨S_, .f32⟩
  | 69 => ⟨S_, .f32⟩
  | 70 => ⟨S320000x8, .f32⟩
  | 71 => ⟨S320000x8, .i1⟩
  | 72 => ⟨S_, .f32⟩
  | 73 => ⟨S320000x8, .f32⟩
  | 74 => ⟨S320000x8, .f32⟩
  | 75 => ⟨S320000x8, .f32⟩
  | 76 => ⟨S1x320000, .i32⟩
  | 77 => ⟨S10000, .i32⟩
  | 78 => ⟨S10000x1, .i32⟩
  | 79 => ⟨S10000x320000, .i32⟩
  | 80 => ⟨S10000x320000, .i32⟩
  | 81 => ⟨S10000x320000, .i1⟩
  | 82 => ⟨S10000x320000x1, .i1⟩
  | 83 => ⟨S1x320000x8, .f32⟩
  | 84 => ⟨S_, .f32⟩
  | 85 => ⟨S_, .f32⟩
  | 86 => ⟨S10000x320000x8, .i1⟩
  | 87 => ⟨S10000x320000x8, .f32⟩
  | 88 => ⟨S10000x320000x8, .f32⟩
  | 89 => ⟨S10000x320000x8, .f32⟩
  | 90 => ⟨S_, .f32⟩
  | 91 => ⟨S10000x8, .f32⟩
  | 92 => ⟨S10000x8, .f32⟩
  | 93 => ⟨S_, .f32⟩
  | 94 => ⟨S10000x8, .f32⟩
  | 95 => ⟨S10000x8, .i1⟩
  | 96 => ⟨S_, .f32⟩
  | 97 => ⟨S_, .f32⟩
  | 98 => ⟨S10000x8, .f32⟩
  | 99 => ⟨S10000x8, .f32⟩
  | 100 => ⟨S_, .i32⟩
  | 101 => ⟨S320000, .i32⟩
  | 102 => ⟨S320000, .i1⟩
  | 103 => ⟨S_, .i32⟩
  | 104 => ⟨S320000, .i32⟩
  | 105 => ⟨S320000, .i32⟩
  | 106 => ⟨S320000, .i32⟩
  | 107 => ⟨S320000x1, .i32⟩
  | 108 => ⟨S320000x8, .f32⟩
  | 109 => ⟨S320000x8, .f32⟩
  | 110 => ⟨S320000x8, .f32⟩
  | 111 => ⟨S_, .f32⟩
  | 112 => ⟨S10000x8, .f32⟩
  | 113 => ⟨S320000x1, .i32⟩
  | 114 => ⟨S10000x8, .f32⟩
  | 115 => ⟨S_, .i32⟩
  | 116 => ⟨S320000, .i32⟩
  | 117 => ⟨S320000, .i1⟩
  | 118 => ⟨S_, .i32⟩
  | 119 => ⟨S320000, .i32⟩
  | 120 => ⟨S320000, .i32⟩
  | 121 => ⟨S320000, .i32⟩
  | 122 => ⟨S320000x1, .i32⟩
  | 123 => ⟨S320000x8, .f32⟩
  | 124 => ⟨S10000x8, .f32⟩
  | 125 => ⟨S10000x8, .f32⟩
  | 126 => ⟨S_, .i32⟩
  | 127 => ⟨S320000, .i32⟩
  | _ => ⟨S10000x128, .f32⟩

abbrev hbmTy0_1 (i : Nat) : BufTy := match i % 128 with
  | 0 => ⟨S320000, .i1⟩
  | 1 => ⟨S_, .i32⟩
  | 2 => ⟨S320000, .i32⟩
  | 3 => ⟨S320000, .i32⟩
  | 4 => ⟨S320000, .i32⟩
  | 5 => ⟨S320000x1, .i32⟩
  | 6 => ⟨S320000x8, .f32⟩
  | 7 => ⟨S_, .f32⟩
  | 8 => ⟨S320000x8, .f32⟩
  | 9 => ⟨S320000x8, .f32⟩
  | 10 => ⟨S320000x8, .f32⟩
  | 11 => ⟨S320000x8, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S320000x8x64, .f32⟩
  | 21 => ⟨S320000x8x1, .f32⟩
  | 22 => ⟨S320000x8x64, .f32⟩
  | 23 => ⟨S320000x8x64, .f32⟩
  | 24 => ⟨S_, .f32⟩
  | 25 => ⟨S10000x8x64, .f32⟩
  | 26 => ⟨S320000x1, .i32⟩
  | 27 => ⟨S10000x8x64, .f32⟩
  | 28 => ⟨S1x8x64, .f32⟩
  | 29 => ⟨S10000x8x64, .f32⟩
  | 30 => ⟨S10000x8x64, .f32⟩
  | 31 => ⟨S_, .f32⟩
  | 32 => ⟨S10000x8x64, .f32⟩
  | 33 => ⟨S10000x8x64, .i1⟩
  | 34 => ⟨S_, .f32⟩
  | 35 => ⟨S10000x8x64, .f32⟩
  | 36 => ⟨S10000x8x64, .i1⟩
  | 37 => ⟨S_, .f32⟩
  | 38 => ⟨S_, .f32⟩
  | 39 => ⟨S10000x8x64, .f32⟩
  | 40 => ⟨S10000x8x64, .f32⟩
  | 41 => ⟨S10000x8x64, .f32⟩
  | 42 => ⟨S_, .f32⟩
  | 43 => ⟨S10000x8x64, .f32⟩
  | 44 => ⟨S10000x8x64, .f32⟩
  | 45 => ⟨S10000x8x64, .f32⟩
  | 46 => ⟨S10000x512, .f32⟩
  | 47 => ⟨S1x320000, .i32⟩
  | 48 => ⟨S320000, .i32⟩
  | 49 => ⟨S1x320000, .i32⟩
  | 50 => ⟨S320000, .i32⟩
  | 51 => ⟨S10000x512, .f32⟩
  | 52 => ⟨S10000x8x64, .f32⟩
  | 53 => ⟨S1x8x64, .f32⟩
  | 54 => ⟨S10000x8x64, .f32⟩
  | 55 => ⟨S10000x8x64, .f32⟩
  | 56 => ⟨S_, .f32⟩
  | 57 => ⟨S10000x8, .f32⟩
  | 58 => ⟨S1x8x64, .f32⟩
  | 59 => ⟨S10000x8x64, .f32⟩
  | 60 => ⟨S10000x8x64, .f32⟩
  | 61 => ⟨S_, .f32⟩
  | 62 => ⟨S10000x8, .f32⟩
  | 63 => ⟨S_, .i32⟩
  | 64 => ⟨S320000, .i32⟩
  | 65 => ⟨S320000, .i1⟩
  | 66 => ⟨S_, .i32⟩
  | 67 => ⟨S320000, .i32⟩
  | 68 => ⟨S320000, .i32⟩
  | 69 => ⟨S320000, .i32⟩
  | 70 => ⟨S320000x1, .i32⟩
  | 71 => ⟨S320000x8, .f32⟩
  | 72 => ⟨S_, .i32⟩
  | 73 => ⟨S320000, .i32⟩
  | 74 => ⟨S320000, .i1⟩
  | 75 => ⟨S_, .i32⟩
  | 76 => ⟨S320000, .i32⟩
  | 77 => ⟨S320000, .i32⟩
  | 78 => ⟨S320000, .i32⟩
  | 79 => ⟨S320000x1, .i32⟩
  | 80 => ⟨S320000x8, .f32⟩
  | 81 => ⟨S320000x8, .f32⟩
  | 82 => ⟨S_, .f32⟩
  | 83 => ⟨S_, .f32⟩
  | 84 => ⟨S320000x8, .f32⟩
  | 85 => ⟨S320000x8, .i1⟩
  | 86 => ⟨S_, .f32⟩
  | 87 => ⟨S320000x8, .f32⟩
  | 88 => ⟨S320000x8, .f32⟩
  | 89 => ⟨S320000x8, .f32⟩
  | 90 => ⟨S1x320000, .i32⟩
  | 91 => ⟨S10000, .i32⟩
  | 92 => ⟨S10000x1, .i32⟩
  | 93 => ⟨S10000x320000, .i32⟩
  | 94 => ⟨S10000x320000, .i32⟩
  | 95 => ⟨S10000x320000, .i1⟩
  | 96 => ⟨S10000x320000x1, .i1⟩
  | 97 => ⟨S1x320000x8, .f32⟩
  | 98 => ⟨S_, .f32⟩
  | 99 => ⟨S_, .f32⟩
  | 100 => ⟨S10000x320000x8, .i1⟩
  | 101 => ⟨S10000x320000x8, .f32⟩
  | 102 => ⟨S10000x320000x8, .f32⟩
  | 103 => ⟨S10000x320000x8, .f32⟩
  | 104 => ⟨S_, .f32⟩
  | 105 => ⟨S10000x8, .f32⟩
  | 106 => ⟨S10000x8, .f32⟩
  | 107 => ⟨S_, .f32⟩
  | 108 => ⟨S10000x8, .f32⟩
  | 109 => ⟨S10000x8, .i1⟩
  | 110 => ⟨S_, .f32⟩
  | 111 => ⟨S_, .f32⟩
  | 112 => ⟨S10000x8, .f32⟩
  | 113 => ⟨S10000x8, .f32⟩
  | 114 => ⟨S_, .i32⟩
  | 115 => ⟨S320000, .i32⟩
  | 116 => ⟨S320000, .i1⟩
  | 117 => ⟨S_, .i32⟩
  | 118 => ⟨S320000, .i32⟩
  | 119 => ⟨S320000, .i32⟩
  | 120 => ⟨S320000, .i32⟩
  | 121 => ⟨S320000x1, .i32⟩
  | 122 => ⟨S320000x8, .f32⟩
  | 123 => ⟨S320000x8, .f32⟩
  | 124 => ⟨S320000x8, .f32⟩
  | 125 => ⟨S_, .f32⟩
  | 126 => ⟨S10000x8, .f32⟩
  | 127 => ⟨S320000x1, .i32⟩
  | _ => ⟨S10000x128, .f32⟩

abbrev hbmTy0_2 (i : Nat) : BufTy := match i % 128 with
  | 0 => ⟨S10000x8, .f32⟩
  | 1 => ⟨S_, .i32⟩
  | 2 => ⟨S320000, .i32⟩
  | 3 => ⟨S320000, .i1⟩
  | 4 => ⟨S_, .i32⟩
  | 5 => ⟨S320000, .i32⟩
  | 6 => ⟨S320000, .i32⟩
  | 7 => ⟨S320000, .i32⟩
  | 8 => ⟨S320000x1, .i32⟩
  | 9 => ⟨S320000x8, .f32⟩
  | 10 => ⟨S10000x8, .f32⟩
  | 11 => ⟨S10000x8, .f32⟩
  | 12 => ⟨S_, .i32⟩
  | 13 => ⟨S320000, .i32⟩
  | 14 => ⟨S320000, .i1⟩
  | 15 => ⟨S_, .i32⟩
  | 16 => ⟨S320000, .i32⟩
  | 17 => ⟨S320000, .i32⟩
  | 18 => ⟨S320000, .i32⟩
  | 19 => ⟨S320000x1, .i32⟩
  | 20 => ⟨S320000x8, .f32⟩
  | 21 => ⟨S_, .f32⟩
  | 22 => ⟨S320000x8, .f32⟩
  | 23 => ⟨S320000x8, .f32⟩
  | 24 => ⟨S320000x8, .f32⟩
  | 25 => ⟨S320000x8, .f32⟩
  | 26 => ⟨S_, .i32⟩
  | 27 => ⟨S320000, .i32⟩
  | 28 => ⟨S320000, .i1⟩
  | 29 => ⟨S_, .i32⟩
  | 30 => ⟨S320000, .i32⟩
  | 31 => ⟨S320000, .i32⟩
  | 32 => ⟨S320000, .i32⟩
  | 33 => ⟨S320000x1, .i32⟩
  | 34 => ⟨S320000x8x64, .f32⟩
  | 35 => ⟨S320000x8x1, .f32⟩
  | 36 => ⟨S320000x8x64, .f32⟩
  | 37 => ⟨S320000x8x64, .f32⟩
  | 38 => ⟨S_, .f32⟩
  | 39 => ⟨S10000x8x64, .f32⟩
  | 40 => ⟨S320000x1, .i32⟩
  | 41 => ⟨S10000x8x64, .f32⟩
  | 42 => ⟨S1x8x64, .f32⟩
  | 43 => ⟨S10000x8x64, .f32⟩
  | 44 => ⟨S10000x8x64, .f32⟩
  | 45 => ⟨S_, .f32⟩
  | 46 => ⟨S10000x8x64, .f32⟩
  | 47 => ⟨S10000x8x64, .i1⟩
  | 48 => ⟨S_, .f32⟩
  | 49 => ⟨S10000x8x64, .f32⟩
  | 50 => ⟨S10000x8x64, .i1⟩
  | 51 => ⟨S_, .f32⟩
  | 52 => ⟨S_, .f32⟩
  | 53 => ⟨S10000x8x64, .f32⟩
  | 54 => ⟨S10000x8x64, .f32⟩
  | 55 => ⟨S10000x8x64, .f32⟩
  | 56 => ⟨S_, .f32⟩
  | 57 => ⟨S10000x8x64, .f32⟩
  | 58 => ⟨S10000x8x64, .f32⟩
  | 59 => ⟨S10000x8x64, .f32⟩
  | 60 => ⟨S10000x512, .f32⟩
  | 61 => ⟨S10000x1x512, .f32⟩
  | 62 => ⟨S10000x1x512, .f32⟩
  | 63 => ⟨S10000x2x512, .f32⟩
  | 64 => ⟨S10000x2x128, .f32⟩
  | 65 => ⟨S1x1x128, .f32⟩
  | 66 => ⟨S10000x2x128, .f32⟩
  | 67 => ⟨S10000x2x128, .f32⟩
  | 68 => ⟨S10000x2x128, .f32⟩
  | 69 => ⟨S10000x2x1, .f32⟩
  | 70 => ⟨S_, .f32⟩
  | 71 => ⟨S10000x1, .f32⟩
  | 72 => ⟨S_, .f32⟩
  | 73 => ⟨S10000x1, .f32⟩
  | 74 => ⟨S10000x1, .f32⟩
  | 75 => ⟨S10000x1x1, .f32⟩
  | 76 => ⟨S10000x2x1, .f32⟩
  | 77 => ⟨S10000x2x1, .f32⟩
  | 78 => ⟨S10000x2x1, .f32⟩
  | 79 => ⟨S_, .f32⟩
  | 80 => ⟨S10000x1, .f32⟩
  | 81 => ⟨S10000x1x1, .f32⟩
  | 82 => ⟨S10000x2x1, .f32⟩
  | 83 => ⟨S10000x2x1, .f32⟩
  | 84 => ⟨S10000x2x512, .f32⟩
  | 85 => ⟨S10000x2x512, .f32⟩
  | 86 => ⟨S_, .f32⟩
  | 87 => ⟨S10000x512, .f32⟩
  | 88 => ⟨S10000x64, .f32⟩
  | 89 => ⟨S10000x64, .f32⟩
  | 90 => ⟨S1x320000, .i32⟩
  | 91 => ⟨S320000, .i32⟩
  | 92 => ⟨S1x320000, .i32⟩
  | 93 => ⟨S320000, .i32⟩
  | 94 => ⟨S10000x512, .f32⟩
  | 95 => ⟨S10000x8x64, .f32⟩
  | 96 => ⟨S1x8x64, .f32⟩
  | 97 => ⟨S10000x8x64, .f32⟩
  | 98 => ⟨S10000x8x64, .f32⟩
  | 99 => ⟨S_, .f32⟩
  | 100 => ⟨S10000x8, .f32⟩
  | 101 => ⟨S1x8x64, .f32⟩
  | 102 => ⟨S10000x8x64, .f32⟩
  | 103 => ⟨S10000x8x64, .f32⟩
  | 104 => ⟨S_, .f32⟩
  | 105 => ⟨S10000x8, .f32⟩
  | 106 => ⟨S_, .i32⟩
  | 107 => ⟨S320000, .i32⟩
  | 108 => ⟨S320000, .i1⟩
  | 109 => ⟨S_, .i32⟩
  | 110 => ⟨S320000, .i32⟩
  | 111 => ⟨S320000, .i32⟩
  | 112 => ⟨S320000, .i32⟩
  | 113 => ⟨S320000x1, .i32⟩
  | 114 => ⟨S320000x8, .f32⟩
  | 115 => ⟨S_, .i32⟩
  | 116 => ⟨S320000, .i32⟩
  | 117 => ⟨S320000, .i1⟩
  | 118 => ⟨S_, .i32⟩
  | 119 => ⟨S320000, .i32⟩
  | 120 => ⟨S320000, .i32⟩
  | 121 => ⟨S320000, .i32⟩
  | 122 => ⟨S320000x1, .i32⟩
  | 123 => ⟨S320000x8, .f32⟩
  | 124 => ⟨S320000x8, .f32⟩
  | 125 => ⟨S_, .f32⟩
  | 126 => ⟨S_, .f32⟩
  | 127 => ⟨S320000x8, .f32⟩
  | _ => ⟨S10000x128, .f32⟩

abbrev hbmTy0_3 (i : Nat) : BufTy := match i % 128 with
  | 0 => ⟨S320000x8, .i1⟩
  | 1 => ⟨S_, .f32⟩
  | 2 => ⟨S320000x8, .f32⟩
  | 3 => ⟨S320000x8, .f32⟩
  | 4 => ⟨S320000x8, .f32⟩
  | 5 => ⟨S1x320000, .i32⟩
  | 6 => ⟨S10000, .i32⟩
  | 7 => ⟨S10000x1, .i32⟩
  | 8 => ⟨S10000x320000, .i32⟩
  | 9 => ⟨S10000x320000, .i32⟩
  | 10 => ⟨S10000x320000, .i1⟩
  | 11 => ⟨S10000x320000x1, .i1⟩
  | 12 => ⟨S1x320000x8, .f32⟩
  | 13 => ⟨S_, .f32⟩
  | 14 => ⟨S_, .f32⟩
  | 15 => ⟨S10000x320000x8, .i1⟩
  | 16 => ⟨S10000x320000x8, .f32⟩
  | 17 => ⟨S10000x320000x8, .f32⟩
  | 18 => ⟨S10000x320000x8, .f32⟩
  | 19 => ⟨S_, .f32⟩
  | 20 => ⟨S10000x8, .f32⟩
  | 21 => ⟨S10000x8, .f32⟩
  | 22 => ⟨S_, .f32⟩
  | 23 => ⟨S10000x8, .f32⟩
  | 24 => ⟨S10000x8, .i1⟩
  | 25 => ⟨S_, .f32⟩
  | 26 => ⟨S_, .f32⟩
  | 27 => ⟨S10000x8, .f32⟩
  | 28 => ⟨S10000x8, .f32⟩
  | 29 => ⟨S_, .i32⟩
  | 30 => ⟨S320000, .i32⟩
  | 31 => ⟨S320000, .i1⟩
  | 32 => ⟨S_, .i32⟩
  | 33 => ⟨S320000, .i32⟩
  | 34 => ⟨S320000, .i32⟩
  | 35 => ⟨S320000, .i32⟩
  | 36 => ⟨S320000x1, .i32⟩
  | 37 => ⟨S320000x8, .f32⟩
  | 38 => ⟨S320000x8, .f32⟩
  | 39 => ⟨S320000x8, .f32⟩
  | 40 => ⟨S_, .f32⟩
  | 41 => ⟨S10000x8, .f32⟩
  | 42 => ⟨S320000x1, .i32⟩
  | 43 => ⟨S10000x8, .f32⟩
  | 44 => ⟨S_, .i32⟩
  | 45 => ⟨S320000, .i32⟩
  | 46 => ⟨S320000, .i1⟩
  | 47 => ⟨S_, .i32⟩
  | 48 => ⟨S320000, .i32⟩
  | 49 => ⟨S320000, .i32⟩
  | 50 => ⟨S320000, .i32⟩
  | 51 => ⟨S320000x1, .i32⟩
  | 52 => ⟨S320000x8, .f32⟩
  | 53 => ⟨S10000x8, .f32⟩
  | 54 => ⟨S10000x8, .f32⟩
  | 55 => ⟨S_, .i32⟩
  | 56 => ⟨S320000, .i32⟩
  | 57 => ⟨S320000, .i1⟩
  | 58 => ⟨S_, .i32⟩
  | 59 => ⟨S320000, .i32⟩
  | 60 => ⟨S320000, .i32⟩
  | 61 => ⟨S320000, .i32⟩
  | 62 => ⟨S320000x1, .i32⟩
  | 63 => ⟨S320000x8, .f32⟩
  | 64 => ⟨S_, .f32⟩
  | 65 => ⟨S320000x8, .f32⟩
  | 66 => ⟨S320000x8, .f32⟩
  | 67 => ⟨S320000x8, .f32⟩
  | 68 => ⟨S320000x8, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x8x64, .f32⟩
  | 78 => ⟨S320000x8x1, .f32⟩
  | 79 => ⟨S320000x8x64, .f32⟩
  | 80 => ⟨S320000x8x64, .f32⟩
  | 81 => ⟨S_, .f32⟩
  | 82 => ⟨S10000x8x64, .f32⟩
  | 83 => ⟨S320000x1, .i32⟩
  | 84 => ⟨S10000x8x64, .f32⟩
  | 85 => ⟨S1x8x64, .f32⟩
  | 86 => ⟨S10000x8x64, .f32⟩
  | 87 => ⟨S10000x8x64, .f32⟩
  | 88 => ⟨S_, .f32⟩
  | 89 => ⟨S10000x8x64, .f32⟩
  | 90 => ⟨S10000x8x64, .i1⟩
  | 91 => ⟨S_, .f32⟩
  | 92 => ⟨S10000x8x64, .f32⟩
  | 93 => ⟨S10000x8x64, .i1⟩
  | 94 => ⟨S_, .f32⟩
  | 95 => ⟨S_, .f32⟩
  | 96 => ⟨S10000x8x64, .f32⟩
  | 97 => ⟨S10000x8x64, .f32⟩
  | 98 => ⟨S10000x8x64, .f32⟩
  | 99 => ⟨S_, .f32⟩
  | 100 => ⟨S10000x8x64, .f32⟩
  | 101 => ⟨S10000x8x64, .f32⟩
  | 102 => ⟨S10000x8x64, .f32⟩
  | 103 => ⟨S10000x512, .f32⟩
  | 104 => ⟨S1x320000, .i32⟩
  | 105 => ⟨S320000, .i32⟩
  | 106 => ⟨S1x320000, .i32⟩
  | 107 => ⟨S320000, .i32⟩
  | 108 => ⟨S10000x512, .f32⟩
  | 109 => ⟨S10000x8x64, .f32⟩
  | 110 => ⟨S1x8x64, .f32⟩
  | 111 => ⟨S10000x8x64, .f32⟩
  | 112 => ⟨S10000x8x64, .f32⟩
  | 113 => ⟨S_, .f32⟩
  | 114 => ⟨S10000x8, .f32⟩
  | 115 => ⟨S1x8x64, .f32⟩
  | 116 => ⟨S10000x8x64, .f32⟩
  | 117 => ⟨S10000x8x64, .f32⟩
  | 118 => ⟨S_, .f32⟩
  | 119 => ⟨S10000x8, .f32⟩
  | 120 => ⟨S_, .i32⟩
  | 121 => ⟨S320000, .i32⟩
  | 122 => ⟨S320000, .i1⟩
  | 123 => ⟨S_, .i32⟩
  | 124 => ⟨S320000, .i32⟩
  | 125 => ⟨S320000, .i32⟩
  | 126 => ⟨S320000, .i32⟩
  | 127 => ⟨S320000x1, .i32⟩
  | _ => ⟨S10000x128, .f32⟩

abbrev hbmTy0_4 (i : Nat) : BufTy := match i % 128 with
  | 0 => ⟨S320000x8, .f32⟩
  | 1 => ⟨S_, .i32⟩
  | 2 => ⟨S320000, .i32⟩
  | 3 => ⟨S320000, .i1⟩
  | 4 => ⟨S_, .i32⟩
  | 5 => ⟨S320000, .i32⟩
  | 6 => ⟨S320000, .i32⟩
  | 7 => ⟨S320000, .i32⟩
  | 8 => ⟨S320000x1, .i32⟩
  | 9 => ⟨S320000x8, .f32⟩
  | 10 => ⟨S320000x8, .f32⟩
  | 11 => ⟨S_, .f32⟩
  | 12 => ⟨S_, .f32⟩
  | 13 => ⟨S320000x8, .f32⟩
  | 14 => ⟨S320000x8, .i1⟩
  | 15 => ⟨S_, .f32⟩
  | 16 => ⟨S320000x8, .f32⟩
  | 17 => ⟨S320000x8, .f32⟩
  | 18 => ⟨S320000x8, .f32⟩
  | 19 => ⟨S1x320000, .i32⟩
  | 20 => ⟨S10000, .i32⟩
  | 21 => ⟨S10000x1, .i32⟩
  | 22 => ⟨S10000x320000, .i32⟩
  | 23 => ⟨S10000x320000, .i32⟩
  | 24 => ⟨S10000x320000, .i1⟩
  | 25 => ⟨S10000x320000x1, .i1⟩
  | 26 => ⟨S1x320000x8, .f32⟩
  | 27 => ⟨S_, .f32⟩
  | 28 => ⟨S_, .f32⟩
  | 29 => ⟨S10000x320000x8, .i1⟩
  | 30 => ⟨S10000x320000x8, .f32⟩
  | 31 => ⟨S10000x320000x8, .f32⟩
  | 32 => ⟨S10000x320000x8, .f32⟩
  | 33 => ⟨S_, .f32⟩
  | 34 => ⟨S10000x8, .f32⟩
  | 35 => ⟨S10000x8, .f32⟩
  | 36 => ⟨S_, .f32⟩
  | 37 => ⟨S10000x8, .f32⟩
  | 38 => ⟨S10000x8, .i1⟩
  | 39 => ⟨S_, .f32⟩
  | 40 => ⟨S_, .f32⟩
  | 41 => ⟨S10000x8, .f32⟩
  | 42 => ⟨S10000x8, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000x8, .f32⟩
  | 52 => ⟨S320000x8, .f32⟩
  | 53 => ⟨S320000x8, .f32⟩
  | 54 => ⟨S_, .f32⟩
  | 55 => ⟨S10000x8, .f32⟩
  | 56 => ⟨S320000x1, .i32⟩
  | 57 => ⟨S10000x8, .f32⟩
  | 58 => ⟨S_, .i32⟩
  | 59 => ⟨S320000, .i32⟩
  | 60 => ⟨S320000, .i1⟩
  | 61 => ⟨S_, .i32⟩
  | 62 => ⟨S320000, .i32⟩
  | 63 => ⟨S320000, .i32⟩
  | 64 => ⟨S320000, .i32⟩
  | 65 => ⟨S320000x1, .i32⟩
  | 66 => ⟨S320000x8, .f32⟩
  | 67 => ⟨S10000x8, .f32⟩
  | 68 => ⟨S10000x8, .f32⟩
  | 69 => ⟨S_, .i32⟩
  | 70 => ⟨S320000, .i32⟩
  | 71 => ⟨S320000, .i1⟩
  | 72 => ⟨S_, .i32⟩
  | 73 => ⟨S320000, .i32⟩
  | 74 => ⟨S320000, .i32⟩
  | 75 => ⟨S320000, .i32⟩
  | 76 => ⟨S320000x1, .i32⟩
  | 77 => ⟨S320000x8, .f32⟩
  | 78 => ⟨S_, .f32⟩
  | 79 => ⟨S320000x8, .f32⟩
  | 80 => ⟨S320000x8, .f32⟩
  | 81 => ⟨S320000x8, .f32⟩
  | 82 => ⟨S320000x8, .f32⟩
  | 83 => ⟨S_, .i32⟩
  | 84 => ⟨S320000, .i32⟩
  | 85 => ⟨S320000, .i1⟩
  | 86 => ⟨S_, .i32⟩
  | 87 => ⟨S320000, .i32⟩
  | 88 => ⟨S320000, .i32⟩
  | 89 => ⟨S320000, .i32⟩
  | 90 => ⟨S320000x1, .i32⟩
  | 91 => ⟨S320000x8x64, .f32⟩
  | 92 => ⟨S320000x8x1, .f32⟩
  | 93 => ⟨S320000x8x64, .f32⟩
  | 94 => ⟨S320000x8x64, .f32⟩
  | 95 => ⟨S_, .f32⟩
  | 96 => ⟨S10000x8x64, .f32⟩
  | 97 => ⟨S320000x1, .i32⟩
  | 98 => ⟨S10000x8x64, .f32⟩
  | 99 => ⟨S1x8x64, .f32⟩
  | 100 => ⟨S10000x8x64, .f32⟩
  | 101 => ⟨S10000x8x64, .f32⟩
  | 102 => ⟨S_, .f32⟩
  | 103 => ⟨S10000x8x64, .f32⟩
  | 104 => ⟨S10000x8x64, .i1⟩
  | 105 => ⟨S_, .f32⟩
  | 106 => ⟨S10000x8x64, .f32⟩
  | 107 => ⟨S10000x8x64, .i1⟩
  | 108 => ⟨S_, .f32⟩
  | 109 => ⟨S_, .f32⟩
  | 110 => ⟨S10000x8x64, .f32⟩
  | 111 => ⟨S10000x8x64, .f32⟩
  | 112 => ⟨S10000x8x64, .f32⟩
  | 113 => ⟨S_, .f32⟩
  | 114 => ⟨S10000x8x64, .f32⟩
  | 115 => ⟨S10000x8x64, .f32⟩
  | 116 => ⟨S10000x8x64, .f32⟩
  | 117 => ⟨S10000x512, .f32⟩
  | 118 => ⟨S10000x1x512, .f32⟩
  | 119 => ⟨S10000x1x512, .f32⟩
  | 120 => ⟨S10000x2x512, .f32⟩
  | 121 => ⟨S10000x2x128, .f32⟩
  | 122 => ⟨S1x1x128, .f32⟩
  | 123 => ⟨S10000x2x128, .f32⟩
  | 124 => ⟨S10000x2x128, .f32⟩
  | 125 => ⟨S10000x2x128, .f32⟩
  | 126 => ⟨S10000x2x1, .f32⟩
  | 127 => ⟨S_, .f32⟩
  | _ => ⟨S10000x128, .f32⟩

abbrev hbmTy0_5 (i : Nat) : BufTy := match i % 128 with
  | 0 => ⟨S10000x1, .f32⟩
  | 1 => ⟨S_, .f32⟩
  | 2 => ⟨S10000x1, .f32⟩
  | 3 => ⟨S10000x1, .f32⟩
  | 4 => ⟨S10000x1x1, .f32⟩
  | 5 => ⟨S10000x2x1, .f32⟩
  | 6 => ⟨S10000x2x1, .f32⟩
  | 7 => ⟨S10000x2x1, .f32⟩
  | 8 => ⟨S_, .f32⟩
  | 9 => ⟨S10000x1, .f32⟩
  | 10 => ⟨S10000x1x1, .f32⟩
  | 11 => ⟨S10000x2x1, .f32⟩
  | 12 => ⟨S10000x2x1, .f32⟩
  | 13 => ⟨S10000x2x512, .f32⟩
  | 14 => ⟨S10000x2x512, .f32⟩
  | 15 => ⟨S_, .f32⟩
  | 16 => ⟨S10000x512, .f32⟩
  | 17 => ⟨S10000x64, .f32⟩
  | 18 => ⟨S64x10000, .f32⟩
  | 19 => ⟨S10000x10000, .f32⟩
  | _ => ⟨S10000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_0 : Ref sig .tc := ⟨.hbm, 47, rfl⟩
abbrev main_v14 : Ref sig .tc := ⟨.hbm, 48, rfl⟩
abbrev main_c : Ref sig .tc := ⟨.hbm, 49, rfl⟩
abbrev main_v15 : Ref sig .tc := ⟨.hbm, 50, rfl⟩
abbrev main_v16 : Ref sig .tc := ⟨.hbm, 51, rfl⟩
abbrev main_c_1 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_c_2 : Ref sig .tc := ⟨.hbm, 58, rfl⟩
abbrev main_v22 : Ref sig .tc := ⟨.hbm, 59, rfl⟩
abbrev main_v23 : Ref sig .tc := ⟨.hbm, 60, rfl⟩
abbrev main_c_3 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst_4 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_5 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_v39 : Ref sig .tc := ⟨.hbm, 89, rfl⟩
abbrev main_cst_6 : Ref sig .tc := ⟨.hbm, 90, rfl⟩
abbrev main_v40 : Ref sig .tc := ⟨.hbm, 91, rfl⟩
abbrev main_v41 : Ref sig .tc := ⟨.hbm, 92, rfl⟩
abbrev main_cst_7 : Ref sig .tc := ⟨.hbm, 93, rfl⟩
abbrev main_v42 : Ref sig .tc := ⟨.hbm, 94, rfl⟩
abbrev main_v43 : Ref sig .tc := ⟨.hbm, 95, rfl⟩
abbrev main_cst_8 : Ref sig .tc := ⟨.hbm, 96, rfl⟩
abbrev main_call2_v0 : Ref sig .tc := ⟨.hbm, 97, rfl⟩
abbrev main_call2_v1 : Ref sig .tc := ⟨.hbm, 98, rfl⟩
abbrev main_v44 : Ref sig .tc := ⟨.hbm, 99, rfl⟩
abbrev main_c_9 : Ref sig .tc := ⟨.hbm, 100, rfl⟩
abbrev main_v45 : Ref sig .tc := ⟨.hbm, 101, rfl⟩
abbrev main_v46 : Ref sig .tc := ⟨.hbm, 102, rfl⟩
abbrev main_c_10 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_11 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_c_12 : Ref sig .tc := ⟨.hbm, 115, rfl⟩
abbrev main_v57 : Ref sig .tc := ⟨.hbm, 116, rfl⟩
abbrev main_v58 : Ref sig .tc := ⟨.hbm, 117, rfl⟩
abbrev main_c_13 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_c_14 : Ref sig .tc := ⟨.hbm, 126, rfl⟩
abbrev main_v66 : Ref sig .tc := ⟨.hbm, 127, rfl⟩
abbrev main_v67 : Ref sig .tc := ⟨.hbm, 128, rfl⟩
abbrev main_c_15 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_cst_16 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_v76 : Ref sig .tc := ⟨.hbm, 139, rfl⟩
abbrev main_c_17 : Ref sig .tc := ⟨.hbm, 140, rfl⟩
abbrev main_v77 : Ref sig .tc := ⟨.hbm, 141, rfl⟩
abbrev main_v78 : Ref sig .tc := ⟨.hbm, 142, rfl⟩
abbrev main_c_18 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_cst_19 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_call3_cst : Ref sig .tc := ⟨.hbm, 159, rfl⟩
abbrev main_call3_v0 : Ref sig .tc := ⟨.hbm, 160, rfl⟩
abbrev main_call3_v1 : Ref sig .tc := ⟨.hbm, 161, rfl⟩
abbrev main_call3_cst_0 : Ref sig .tc := ⟨.hbm, 162, rfl⟩
abbrev main_call3_v2 : Ref sig .tc := ⟨.hbm, 163, rfl⟩
abbrev main_call3_v3 : Ref sig .tc := ⟨.hbm, 164, rfl⟩
abbrev main_call3_cst_1 : Ref sig .tc := ⟨.hbm, 165, rfl⟩
abbrev main_call3_call0_v0 : Ref sig .tc := ⟨.hbm, 166, rfl⟩
abbrev main_call3_call0_v1 : Ref sig .tc := ⟨.hbm, 167, rfl⟩
abbrev main_call3_v4 : Ref sig .tc := ⟨.hbm, 168, rfl⟩
abbrev main_call3_v5 : Ref sig .tc := ⟨.hbm, 169, rfl⟩
abbrev main_call3_cst_2 : Ref sig .tc := ⟨.hbm, 170, rfl⟩
abbrev main_call3_v6 : Ref sig .tc := ⟨.hbm, 171, rfl⟩
abbrev main_call3_v7 : Ref sig .tc := ⟨.hbm, 172, rfl⟩
abbrev main_v93 : Ref sig .tc := ⟨.hbm, 173, rfl⟩
abbrev main_v94 : Ref sig .tc := ⟨.hbm, 174, rfl⟩
abbrev main_v95 : Ref sig .tc := ⟨.hbm, 175, rfl⟩
abbrev main_v96 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_cst_20 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_cst_21 : Ref sig .tc := ⟨.hbm, 189, rfl⟩
abbrev main_v108 : Ref sig .tc := ⟨.hbm, 190, rfl⟩
abbrev main_c_22 : Ref sig .tc := ⟨.hbm, 191, rfl⟩
abbrev main_v109 : Ref sig .tc := ⟨.hbm, 192, rfl⟩
abbrev main_v110 : Ref sig .tc := ⟨.hbm, 193, rfl⟩
abbrev main_c_23 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_c_24 : Ref sig .tc := ⟨.hbm, 200, rfl⟩
abbrev main_v116 : Ref sig .tc := ⟨.hbm, 201, rfl⟩
abbrev main_v117 : Ref sig .tc := ⟨.hbm, 202, rfl⟩
abbrev main_c_25 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_cst_26 : Ref sig .tc := ⟨.hbm, 210, rfl⟩
abbrev main_call4_cst : Ref sig .tc := ⟨.hbm, 211, rfl⟩
abbrev main_call4_v0 : Ref sig .tc := ⟨.hbm, 212, rfl⟩
abbrev main_call4_v1 : Ref sig .tc := ⟨.hbm, 213, rfl⟩
abbrev main_call4_v2 : Ref sig .tc := ⟨.hbm, 214, rfl⟩
abbrev main_call4_v3 : Ref sig .tc := ⟨.hbm, 215, rfl⟩
abbrev main_call4_v4 : Ref sig .tc := ⟨.hbm, 216, rfl⟩
abbrev main_v124 : Ref sig .tc := ⟨.hbm, 217, rfl⟩
abbrev main_v125 : Ref sig .tc := ⟨.hbm, 218, rfl⟩
abbrev main_v126 : Ref sig .tc := ⟨.hbm, 219, rfl⟩
abbrev main_v127 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_v131 : Ref sig .tc := ⟨.hbm, 224, rfl⟩
abbrev main_v132 : Ref sig .tc := ⟨.hbm, 225, rfl⟩
abbrev main_cst_27 : Ref sig .tc := ⟨.hbm, 226, rfl⟩
abbrev main_call5_v0 : Ref sig .tc := ⟨.hbm, 227, rfl⟩
abbrev main_call5_v1 : Ref sig .tc := ⟨.hbm, 228, rfl⟩
abbrev main_call5_v2 : Ref sig .tc := ⟨.hbm, 229, rfl⟩
abbrev main_call5_v3 : Ref sig .tc := ⟨.hbm, 230, rfl⟩
abbrev main_v133 : Ref sig .tc := ⟨.hbm, 231, rfl⟩
abbrev main_cst_28 : Ref sig .tc := ⟨.hbm, 232, rfl⟩
abbrev main_v134 : Ref sig .tc := ⟨.hbm, 233, rfl⟩
abbrev main_v135 : Ref sig .tc := ⟨.hbm, 234, rfl⟩
abbrev main_cst_29 : Ref sig .tc := ⟨.hbm, 235, rfl⟩
abbrev main_v136 : Ref sig .tc := ⟨.hbm, 236, rfl⟩
abbrev main_v137 : Ref sig .tc := ⟨.hbm, 237, rfl⟩
abbrev main_cst_30 : Ref sig .tc := ⟨.hbm, 238, rfl⟩
abbrev main_call6_v0 : Ref sig .tc := ⟨.hbm, 239, rfl⟩
abbrev main_call6_v1 : Ref sig .tc := ⟨.hbm, 240, rfl⟩
abbrev main_v138 : Ref sig .tc := ⟨.hbm, 241, rfl⟩
abbrev main_c_31 : Ref sig .tc := ⟨.hbm, 242, rfl⟩
abbrev main_v139 : Ref sig .tc := ⟨.hbm, 243, rfl⟩
abbrev main_v140 : Ref sig .tc := ⟨.hbm, 244, rfl⟩
abbrev main_c_32 : Ref sig .tc := ⟨.hbm, 245, rfl⟩
abbrev main_v141 : Ref sig .tc := ⟨.hbm, 246, rfl⟩
abbrev main_v142 : Ref sig .tc := ⟨.hbm, 247, rfl⟩
abbrev main_v143 : Ref sig .tc := ⟨.hbm, 248, rfl⟩
abbrev main_v144 : Ref sig .tc := ⟨.hbm, 249, rfl⟩
abbrev main_v145 : Ref sig .tc := ⟨.hbm, 250, rfl⟩
abbrev main_v146 : Ref sig .tc := ⟨.hbm, 251, rfl⟩
abbrev main_v147 : Ref sig .tc := ⟨.hbm, 252, rfl⟩
abbrev main_cst_33 : Ref sig .tc := ⟨.hbm, 253, rfl⟩
abbrev main_v148 : Ref sig .tc := ⟨.hbm, 254, rfl⟩
abbrev main_v149 : Ref sig .tc := ⟨.hbm, 255, rfl⟩
abbrev main_v150 : Ref sig .tc := ⟨.hbm, 256, rfl⟩
abbrev main_c_34 : Ref sig .tc := ⟨.hbm, 257, rfl⟩
abbrev main_v151 : Ref sig .tc := ⟨.hbm, 258, rfl⟩
abbrev main_v152 : Ref sig .tc := ⟨.hbm, 259, rfl⟩
abbrev main_c_35 : Ref sig .tc := ⟨.hbm, 260, rfl⟩
abbrev main_v153 : Ref sig .tc := ⟨.hbm, 261, rfl⟩
abbrev main_v154 : Ref sig .tc := ⟨.hbm, 262, rfl⟩
abbrev main_v155 : Ref sig .tc := ⟨.hbm, 263, rfl⟩
abbrev main_v156 : Ref sig .tc := ⟨.hbm, 264, rfl⟩
abbrev main_v157 : Ref sig .tc := ⟨.hbm, 265, rfl⟩
abbrev main_v158 : Ref sig .tc := ⟨.hbm, 266, rfl⟩
abbrev main_v159 : Ref sig .tc := ⟨.hbm, 267, rfl⟩
abbrev main_c_36 : Ref sig .tc := ⟨.hbm, 268, rfl⟩
abbrev main_v160 : Ref sig .tc := ⟨.hbm, 269, rfl⟩
abbrev main_v161 : Ref sig .tc := ⟨.hbm, 270, rfl⟩
abbrev main_c_37 : Ref sig .tc := ⟨.hbm, 271, rfl⟩
abbrev main_v162 : Ref sig .tc := ⟨.hbm, 272, rfl⟩
abbrev main_v163 : Ref sig .tc := ⟨.hbm, 273, rfl⟩
abbrev main_v164 : Ref sig .tc := ⟨.hbm, 274, rfl⟩
abbrev main_v165 : Ref sig .tc := ⟨.hbm, 275, rfl⟩
abbrev main_v166 : Ref sig .tc := ⟨.hbm, 276, rfl⟩
abbrev main_cst_38 : Ref sig .tc := ⟨.hbm, 277, rfl⟩
abbrev main_v167 : Ref sig .tc := ⟨.hbm, 278, rfl⟩
abbrev main_v168 : Ref sig .tc := ⟨.hbm, 279, rfl⟩
abbrev main_v169 : Ref sig .tc := ⟨.hbm, 280, rfl⟩
abbrev main_v170 : Ref sig .tc := ⟨.hbm, 281, rfl⟩
abbrev main_c_39 : Ref sig .tc := ⟨.hbm, 282, rfl⟩
abbrev main_v171 : Ref sig .tc := ⟨.hbm, 283, rfl⟩
abbrev main_v172 : Ref sig .tc := ⟨.hbm, 284, rfl⟩
abbrev main_c_40 : Ref sig .tc := ⟨.hbm, 285, rfl⟩
abbrev main_v173 : Ref sig .tc := ⟨.hbm, 286, rfl⟩
abbrev main_v174 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_cst_41 : Ref sig .tc := ⟨.hbm, 294, rfl⟩
abbrev main_v181 : Ref sig .tc := ⟨.hbm, 295, rfl⟩
abbrev main_v182 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_v186 : Ref sig .tc := ⟨.hbm, 300, rfl⟩
abbrev main_call7_cst : Ref sig .tc := ⟨.hbm, 301, rfl⟩
abbrev main_call7_v0 : Ref sig .tc := ⟨.hbm, 302, rfl⟩
abbrev main_call7_v1 : Ref sig .tc := ⟨.hbm, 303, rfl⟩
abbrev main_call7_cst_0 : Ref sig .tc := ⟨.hbm, 304, rfl⟩
abbrev main_call7_v2 : Ref sig .tc := ⟨.hbm, 305, rfl⟩
abbrev main_call7_v3 : Ref sig .tc := ⟨.hbm, 306, rfl⟩
abbrev main_call7_cst_1 : Ref sig .tc := ⟨.hbm, 307, rfl⟩
abbrev main_call7_call0_v0 : Ref sig .tc := ⟨.hbm, 308, rfl⟩
abbrev main_call7_call0_v1 : Ref sig .tc := ⟨.hbm, 309, rfl⟩
abbrev main_call7_v4 : Ref sig .tc := ⟨.hbm, 310, rfl⟩
abbrev main_call7_v5 : Ref sig .tc := ⟨.hbm, 311, rfl⟩
abbrev main_call7_cst_2 : Ref sig .tc := ⟨.hbm, 312, rfl⟩
abbrev main_call7_v6 : Ref sig .tc := ⟨.hbm, 313, rfl⟩
abbrev main_call7_v7 : Ref sig .tc := ⟨.hbm, 314, rfl⟩
abbrev main_v187 : Ref sig .tc := ⟨.hbm, 315, rfl⟩
abbrev main_v188 : Ref sig .tc := ⟨.hbm, 316, rfl⟩
abbrev main_v189 : Ref sig .tc := ⟨.hbm, 317, rfl⟩
abbrev main_v190 : Ref sig .tc := ⟨.hbm, 318, rfl⟩
abbrev main_v191 : Ref sig .tc := ⟨.hbm, 319, rfl⟩
abbrev main_v192 : Ref sig .tc := ⟨.hbm, 320, rfl⟩
abbrev main_v193 : Ref sig .tc := ⟨.hbm, 321, rfl⟩
abbrev main_v194 : Ref sig .tc := ⟨.hbm, 322, rfl⟩
abbrev main_v195 : Ref sig .tc := ⟨.hbm, 323, rfl⟩
abbrev main_v196 : Ref sig .tc := ⟨.hbm, 324, rfl⟩
abbrev main_v197 : Ref sig .tc := ⟨.hbm, 325, rfl⟩
abbrev main_cst_42 : Ref sig .tc := ⟨.hbm, 326, rfl⟩
abbrev main_v198 : Ref sig .tc := ⟨.hbm, 327, rfl⟩
abbrev main_cst_43 : Ref sig .tc := ⟨.hbm, 328, rfl⟩
abbrev main_v199 : Ref sig .tc := ⟨.hbm, 329, rfl⟩
abbrev main_v200 : Ref sig .tc := ⟨.hbm, 330, rfl⟩
abbrev main_v201 : Ref sig .tc := ⟨.hbm, 331, rfl⟩
abbrev main_v202 : Ref sig .tc := ⟨.hbm, 332, rfl⟩
abbrev main_v203 : Ref sig .tc := ⟨.hbm, 333, rfl⟩
abbrev main_v204 : Ref sig .tc := ⟨.hbm, 334, rfl⟩
abbrev main_cst_44 : Ref sig .tc := ⟨.hbm, 335, rfl⟩
abbrev main_v205 : Ref sig .tc := ⟨.hbm, 336, rfl⟩
abbrev main_v206 : Ref sig .tc := ⟨.hbm, 337, rfl⟩
abbrev main_v207 : Ref sig .tc := ⟨.hbm, 338, rfl⟩
abbrev main_v208 : Ref sig .tc := ⟨.hbm, 339, rfl⟩
abbrev main_v209 : Ref sig .tc := ⟨.hbm, 340, rfl⟩
abbrev main_v210 : Ref sig .tc := ⟨.hbm, 341, rfl⟩
abbrev main_cst_45 : Ref sig .tc := ⟨.hbm, 342, rfl⟩
abbrev main_v211 : Ref sig .tc := ⟨.hbm, 343, rfl⟩
abbrev main_v212 : Ref sig .tc := ⟨.hbm, 344, rfl⟩
abbrev main_v213 : Ref sig .tc := ⟨.hbm, 345, rfl⟩
abbrev main_v214 : Ref sig .tc := ⟨.hbm, 346, rfl⟩
abbrev main_v215 : Ref sig .tc := ⟨.hbm, 347, rfl⟩
abbrev main_v216 : Ref sig .tc := ⟨.hbm, 348, rfl⟩
abbrev main_v217 : Ref sig .tc := ⟨.hbm, 349, rfl⟩
abbrev main_v218 : Ref sig .tc := ⟨.hbm, 350, rfl⟩
abbrev main_v219 : Ref sig .tc := ⟨.hbm, 351, rfl⟩
abbrev main_v220 : Ref sig .tc := ⟨.hbm, 352, rfl⟩
abbrev main_v221 : Ref sig .tc := ⟨.hbm, 353, rfl⟩
abbrev main_v222 : Ref sig .tc := ⟨.hbm, 354, rfl⟩
abbrev main_cst_46 : Ref sig .tc := ⟨.hbm, 355, rfl⟩
abbrev main_v223 : Ref sig .tc := ⟨.hbm, 356, rfl⟩
abbrev main_v224 : Ref sig .tc := ⟨.hbm, 357, rfl⟩
abbrev main_v225 : Ref sig .tc := ⟨.hbm, 358, rfl⟩
abbrev main_v226 : Ref sig .tc := ⟨.hbm, 359, rfl⟩
abbrev main_cst_47 : Ref sig .tc := ⟨.hbm, 360, rfl⟩
abbrev main_v227 : Ref sig .tc := ⟨.hbm, 361, rfl⟩
abbrev main_c_48 : Ref sig .tc := ⟨.hbm, 362, rfl⟩
abbrev main_v228 : Ref sig .tc := ⟨.hbm, 363, rfl⟩
abbrev main_v229 : Ref sig .tc := ⟨.hbm, 364, rfl⟩
abbrev main_c_49 : Ref sig .tc := ⟨.hbm, 365, rfl⟩
abbrev main_v230 : Ref sig .tc := ⟨.hbm, 366, rfl⟩
abbrev main_v231 : Ref sig .tc := ⟨.hbm, 367, rfl⟩
abbrev main_v232 : Ref sig .tc := ⟨.hbm, 368, rfl⟩
abbrev main_v233 : Ref sig .tc := ⟨.hbm, 369, rfl⟩
abbrev main_v234 : Ref sig .tc := ⟨.hbm, 370, rfl⟩
abbrev main_c_50 : Ref sig .tc := ⟨.hbm, 371, rfl⟩
abbrev main_v235 : Ref sig .tc := ⟨.hbm, 372, rfl⟩
abbrev main_v236 : Ref sig .tc := ⟨.hbm, 373, rfl⟩
abbrev main_c_51 : Ref sig .tc := ⟨.hbm, 374, rfl⟩
abbrev main_v237 : Ref sig .tc := ⟨.hbm, 375, rfl⟩
abbrev main_v238 : Ref sig .tc := ⟨.hbm, 376, rfl⟩
abbrev main_v239 : Ref sig .tc := ⟨.hbm, 377, rfl⟩
abbrev main_v240 : Ref sig .tc := ⟨.hbm, 378, rfl⟩
abbrev main_v241 : Ref sig .tc := ⟨.hbm, 379, rfl⟩
abbrev main_v242 : Ref sig .tc := ⟨.hbm, 380, rfl⟩
abbrev main_cst_52 : Ref sig .tc := ⟨.hbm, 381, rfl⟩
abbrev main_call8_cst : Ref sig .tc := ⟨.hbm, 382, rfl⟩
abbrev main_call8_v0 : Ref sig .tc := ⟨.hbm, 383, rfl⟩
abbrev main_call8_v1 : Ref sig .tc := ⟨.hbm, 384, rfl⟩
abbrev main_call8_v2 : Ref sig .tc := ⟨.hbm, 385, rfl⟩
abbrev main_call8_v3 : Ref sig .tc := ⟨.hbm, 386, rfl⟩
abbrev main_call8_v4 : Ref sig .tc := ⟨.hbm, 387, rfl⟩
abbrev main_v243 : Ref sig .tc := ⟨.hbm, 388, rfl⟩
abbrev main_v244 : Ref sig .tc := ⟨.hbm, 389, rfl⟩
abbrev main_v245 : Ref sig .tc := ⟨.hbm, 390, rfl⟩
abbrev main_v246 : Ref sig .tc := ⟨.hbm, 391, rfl⟩
abbrev main_v247 : Ref sig .tc := ⟨.hbm, 392, rfl⟩
abbrev main_v248 : Ref sig .tc := ⟨.hbm, 393, rfl⟩
abbrev main_v249 : Ref sig .tc := ⟨.hbm, 394, rfl⟩
abbrev main_v250 : Ref sig .tc := ⟨.hbm, 395, rfl⟩
abbrev main_v251 : Ref sig .tc := ⟨.hbm, 396, rfl⟩
abbrev main_cst_53 : Ref sig .tc := ⟨.hbm, 397, rfl⟩
abbrev main_call9_v0 : Ref sig .tc := ⟨.hbm, 398, rfl⟩
abbrev main_call9_v1 : Ref sig .tc := ⟨.hbm, 399, rfl⟩
abbrev main_call9_v2 : Ref sig .tc := ⟨.hbm, 400, rfl⟩
abbrev main_call9_v3 : Ref sig .tc := ⟨.hbm, 401, rfl⟩
abbrev main_v252 : Ref sig .tc := ⟨.hbm, 402, rfl⟩
abbrev main_cst_54 : Ref sig .tc := ⟨.hbm, 403, rfl⟩
abbrev main_v253 : Ref sig .tc := ⟨.hbm, 404, rfl⟩
abbrev main_v254 : Ref sig .tc := ⟨.hbm, 405, rfl⟩
abbrev main_cst_55 : Ref sig .tc := ⟨.hbm, 406, rfl⟩
abbrev main_v255 : Ref sig .tc := ⟨.hbm, 407, rfl⟩
abbrev main_v256 : Ref sig .tc := ⟨.hbm, 408, rfl⟩
abbrev main_cst_56 : Ref sig .tc := ⟨.hbm, 409, rfl⟩
abbrev main_call10_v0 : Ref sig .tc := ⟨.hbm, 410, rfl⟩
abbrev main_call10_v1 : Ref sig .tc := ⟨.hbm, 411, rfl⟩
abbrev main_v257 : Ref sig .tc := ⟨.hbm, 412, rfl⟩
abbrev main_c_57 : Ref sig .tc := ⟨.hbm, 413, rfl⟩
abbrev main_v258 : Ref sig .tc := ⟨.hbm, 414, rfl⟩
abbrev main_v259 : Ref sig .tc := ⟨.hbm, 415, rfl⟩
abbrev main_c_58 : Ref sig .tc := ⟨.hbm, 416, rfl⟩
abbrev main_v260 : Ref sig .tc := ⟨.hbm, 417, rfl⟩
abbrev main_v261 : Ref sig .tc := ⟨.hbm, 418, rfl⟩
abbrev main_v262 : Ref sig .tc := ⟨.hbm, 419, rfl⟩
abbrev main_v263 : Ref sig .tc := ⟨.hbm, 420, rfl⟩
abbrev main_v264 : Ref sig .tc := ⟨.hbm, 421, rfl⟩
abbrev main_v265 : Ref sig .tc := ⟨.hbm, 422, rfl⟩
abbrev main_v266 : Ref sig .tc := ⟨.hbm, 423, rfl⟩
abbrev main_cst_59 : Ref sig .tc := ⟨.hbm, 424, rfl⟩
abbrev main_v267 : Ref sig .tc := ⟨.hbm, 425, rfl⟩
abbrev main_v268 : Ref sig .tc := ⟨.hbm, 426, rfl⟩
abbrev main_v269 : Ref sig .tc := ⟨.hbm, 427, rfl⟩
abbrev main_c_60 : Ref sig .tc := ⟨.hbm, 428, rfl⟩
abbrev main_v270 : Ref sig .tc := ⟨.hbm, 429, rfl⟩
abbrev main_v271 : Ref sig .tc := ⟨.hbm, 430, rfl⟩
abbrev main_c_61 : Ref sig .tc := ⟨.hbm, 431, rfl⟩
abbrev main_v272 : Ref sig .tc := ⟨.hbm, 432, rfl⟩
abbrev main_v273 : Ref sig .tc := ⟨.hbm, 433, rfl⟩
abbrev main_v274 : Ref sig .tc := ⟨.hbm, 434, rfl⟩
abbrev main_v275 : Ref sig .tc := ⟨.hbm, 435, rfl⟩
abbrev main_v276 : Ref sig .tc := ⟨.hbm, 436, rfl⟩
abbrev main_v277 : Ref sig .tc := ⟨.hbm, 437, rfl⟩
abbrev main_v278 : Ref sig .tc := ⟨.hbm, 438, rfl⟩
abbrev main_c_62 : Ref sig .tc := ⟨.hbm, 439, rfl⟩
abbrev main_v279 : Ref sig .tc := ⟨.hbm, 440, rfl⟩
abbrev main_v280 : Ref sig .tc := ⟨.hbm, 441, rfl⟩
abbrev main_c_63 : Ref sig .tc := ⟨.hbm, 442, rfl⟩
abbrev main_v281 : Ref sig .tc := ⟨.hbm, 443, rfl⟩
abbrev main_v282 : Ref sig .tc := ⟨.hbm, 444, rfl⟩
abbrev main_v283 : Ref sig .tc := ⟨.hbm, 445, rfl⟩
abbrev main_v284 : Ref sig .tc := ⟨.hbm, 446, rfl⟩
abbrev main_v285 : Ref sig .tc := ⟨.hbm, 447, rfl⟩
abbrev main_cst_64 : Ref sig .tc := ⟨.hbm, 448, rfl⟩
abbrev main_v286 : Ref sig .tc := ⟨.hbm, 449, rfl⟩
abbrev main_v287 : Ref sig .tc := ⟨.hbm, 450, rfl⟩
abbrev main_v288 : Ref sig .tc := ⟨.hbm, 451, rfl⟩
abbrev main_v289 : Ref sig .tc := ⟨.hbm, 452, rfl⟩
abbrev main_c_65 : Ref sig .tc := ⟨.hbm, 453, rfl⟩
abbrev main_v290 : Ref sig .tc := ⟨.hbm, 454, rfl⟩
abbrev main_v291 : Ref sig .tc := ⟨.hbm, 455, rfl⟩
abbrev main_c_66 : Ref sig .tc := ⟨.hbm, 456, rfl⟩
abbrev main_v292 : Ref sig .tc := ⟨.hbm, 457, rfl⟩
abbrev main_v293 : Ref sig .tc := ⟨.hbm, 458, rfl⟩
abbrev main_v294 : Ref sig .tc := ⟨.hbm, 459, rfl⟩
abbrev main_v295 : Ref sig .tc := ⟨.hbm, 460, rfl⟩
abbrev main_v296 : Ref sig .tc := ⟨.hbm, 461, rfl⟩
abbrev main_v297 : Ref sig .tc := ⟨.hbm, 462, rfl⟩
abbrev main_v298 : Ref sig .tc := ⟨.hbm, 463, rfl⟩
abbrev main_v299 : Ref sig .tc := ⟨.hbm, 464, rfl⟩
abbrev main_cst_67 : Ref sig .tc := ⟨.hbm, 465, rfl⟩
abbrev main_v300 : Ref sig .tc := ⟨.hbm, 466, rfl⟩
abbrev main_v301 : Ref sig .tc := ⟨.hbm, 467, rfl⟩
abbrev main_v302 : Ref sig .tc := ⟨.hbm, 468, rfl⟩
abbrev main_v303 : Ref sig .tc := ⟨.hbm, 469, rfl⟩
abbrev main_v304 : Ref sig .tc := ⟨.hbm, 470, rfl⟩
abbrev main_v305 : Ref sig .tc := ⟨.hbm, 471, rfl⟩
abbrev main_call11_cst : Ref sig .tc := ⟨.hbm, 472, rfl⟩
abbrev main_call11_v0 : Ref sig .tc := ⟨.hbm, 473, rfl⟩
abbrev main_call11_v1 : Ref sig .tc := ⟨.hbm, 474, rfl⟩
abbrev main_call11_cst_0 : Ref sig .tc := ⟨.hbm, 475, rfl⟩
abbrev main_call11_v2 : Ref sig .tc := ⟨.hbm, 476, rfl⟩
abbrev main_call11_v3 : Ref sig .tc := ⟨.hbm, 477, rfl⟩
abbrev main_call11_cst_1 : Ref sig .tc := ⟨.hbm, 478, rfl⟩
abbrev main_call11_call0_v0 : Ref sig .tc := ⟨.hbm, 479, rfl⟩
abbrev main_call11_call0_v1 : Ref sig .tc := ⟨.hbm, 480, rfl⟩
abbrev main_call11_v4 : Ref sig .tc := ⟨.hbm, 481, rfl⟩
abbrev main_call11_v5 : Ref sig .tc := ⟨.hbm, 482, rfl⟩
abbrev main_call11_cst_2 : Ref sig .tc := ⟨.hbm, 483, rfl⟩
abbrev main_call11_v6 : Ref sig .tc := ⟨.hbm, 484, rfl⟩
abbrev main_call11_v7 : Ref sig .tc := ⟨.hbm, 485, rfl⟩
abbrev main_v306 : Ref sig .tc := ⟨.hbm, 486, rfl⟩
abbrev main_v307 : Ref sig .tc := ⟨.hbm, 487, rfl⟩
abbrev main_v308 : Ref sig .tc := ⟨.hbm, 488, rfl⟩
abbrev main_v309 : Ref sig .tc := ⟨.hbm, 489, rfl⟩
abbrev main_v310 : Ref sig .tc := ⟨.hbm, 490, rfl⟩
abbrev main_v311 : Ref sig .tc := ⟨.hbm, 491, rfl⟩
abbrev main_v312 : Ref sig .tc := ⟨.hbm, 492, rfl⟩
abbrev main_v313 : Ref sig .tc := ⟨.hbm, 493, rfl⟩
abbrev main_v314 : Ref sig .tc := ⟨.hbm, 494, rfl⟩
abbrev main_v315 : Ref sig .tc := ⟨.hbm, 495, rfl⟩
abbrev main_v316 : Ref sig .tc := ⟨.hbm, 496, rfl⟩
abbrev main_cst_68 : Ref sig .tc := ⟨.hbm, 497, rfl⟩
abbrev main_v317 : Ref sig .tc := ⟨.hbm, 498, rfl⟩
abbrev main_v318 : Ref sig .tc := ⟨.hbm, 499, rfl⟩
abbrev main_v319 : Ref sig .tc := ⟨.hbm, 500, rfl⟩
abbrev main_v320 : Ref sig .tc := ⟨.hbm, 501, rfl⟩
abbrev main_cst_69 : Ref sig .tc := ⟨.hbm, 502, rfl⟩
abbrev main_v321 : Ref sig .tc := ⟨.hbm, 503, rfl⟩
abbrev main_c_70 : Ref sig .tc := ⟨.hbm, 504, rfl⟩
abbrev main_v322 : Ref sig .tc := ⟨.hbm, 505, rfl⟩
abbrev main_v323 : Ref sig .tc := ⟨.hbm, 506, rfl⟩
abbrev main_c_71 : Ref sig .tc := ⟨.hbm, 507, rfl⟩
abbrev main_v324 : Ref sig .tc := ⟨.hbm, 508, rfl⟩
abbrev main_v325 : Ref sig .tc := ⟨.hbm, 509, rfl⟩
abbrev main_v326 : Ref sig .tc := ⟨.hbm, 510, rfl⟩
abbrev main_v327 : Ref sig .tc := ⟨.hbm, 511, rfl⟩
abbrev main_v328 : Ref sig .tc := ⟨.hbm, 512, rfl⟩
abbrev main_c_72 : Ref sig .tc := ⟨.hbm, 513, rfl⟩
abbrev main_v329 : Ref sig .tc := ⟨.hbm, 514, rfl⟩
abbrev main_v330 : Ref sig .tc := ⟨.hbm, 515, rfl⟩
abbrev main_c_73 : Ref sig .tc := ⟨.hbm, 516, rfl⟩
abbrev main_v331 : Ref sig .tc := ⟨.hbm, 517, rfl⟩
abbrev main_v332 : Ref sig .tc := ⟨.hbm, 518, rfl⟩
abbrev main_v333 : Ref sig .tc := ⟨.hbm, 519, rfl⟩
abbrev main_v334 : Ref sig .tc := ⟨.hbm, 520, rfl⟩
abbrev main_v335 : Ref sig .tc := ⟨.hbm, 521, rfl⟩
abbrev main_v336 : Ref sig .tc := ⟨.hbm, 522, rfl⟩
abbrev main_cst_74 : Ref sig .tc := ⟨.hbm, 523, rfl⟩
abbrev main_call12_cst : Ref sig .tc := ⟨.hbm, 524, rfl⟩
abbrev main_call12_v0 : Ref sig .tc := ⟨.hbm, 525, rfl⟩
abbrev main_call12_v1 : Ref sig .tc := ⟨.hbm, 526, rfl⟩
abbrev main_call12_v2 : Ref sig .tc := ⟨.hbm, 527, rfl⟩
abbrev main_call12_v3 : Ref sig .tc := ⟨.hbm, 528, rfl⟩
abbrev main_call12_v4 : Ref sig .tc := ⟨.hbm, 529, rfl⟩
abbrev main_v337 : Ref sig .tc := ⟨.hbm, 530, rfl⟩
abbrev main_v338 : Ref sig .tc := ⟨.hbm, 531, rfl⟩
abbrev main_v339 : Ref sig .tc := ⟨.hbm, 532, rfl⟩
abbrev main_v340 : Ref sig .tc := ⟨.hbm, 533, rfl⟩
abbrev main_v341 : Ref sig .tc := ⟨.hbm, 534, rfl⟩
abbrev main_v342 : Ref sig .tc := ⟨.hbm, 535, rfl⟩
abbrev main_v343 : Ref sig .tc := ⟨.hbm, 536, rfl⟩
abbrev main_v344 : Ref sig .tc := ⟨.hbm, 537, rfl⟩
abbrev main_v345 : Ref sig .tc := ⟨.hbm, 538, rfl⟩
abbrev main_cst_75 : Ref sig .tc := ⟨.hbm, 539, rfl⟩
abbrev main_call13_v0 : Ref sig .tc := ⟨.hbm, 540, rfl⟩
abbrev main_call13_v1 : Ref sig .tc := ⟨.hbm, 541, rfl⟩
abbrev main_call13_v2 : Ref sig .tc := ⟨.hbm, 542, rfl⟩
abbrev main_call13_v3 : Ref sig .tc := ⟨.hbm, 543, rfl⟩
abbrev main_v346 : Ref sig .tc := ⟨.hbm, 544, rfl⟩
abbrev main_cst_76 : Ref sig .tc := ⟨.hbm, 545, rfl⟩
abbrev main_v347 : Ref sig .tc := ⟨.hbm, 546, rfl⟩
abbrev main_v348 : Ref sig .tc := ⟨.hbm, 547, rfl⟩
abbrev main_cst_77 : Ref sig .tc := ⟨.hbm, 548, rfl⟩
abbrev main_v349 : Ref sig .tc := ⟨.hbm, 549, rfl⟩
abbrev main_v350 : Ref sig .tc := ⟨.hbm, 550, rfl⟩
abbrev main_cst_78 : Ref sig .tc := ⟨.hbm, 551, rfl⟩
abbrev main_call14_v0 : Ref sig .tc := ⟨.hbm, 552, rfl⟩
abbrev main_call14_v1 : Ref sig .tc := ⟨.hbm, 553, rfl⟩
abbrev main_v351 : Ref sig .tc := ⟨.hbm, 554, rfl⟩
abbrev main_c_79 : Ref sig .tc := ⟨.hbm, 555, rfl⟩
abbrev main_v352 : Ref sig .tc := ⟨.hbm, 556, rfl⟩
abbrev main_v353 : Ref sig .tc := ⟨.hbm, 557, rfl⟩
abbrev main_c_80 : Ref sig .tc := ⟨.hbm, 558, rfl⟩
abbrev main_v354 : Ref sig .tc := ⟨.hbm, 559, rfl⟩
abbrev main_v355 : Ref sig .tc := ⟨.hbm, 560, rfl⟩
abbrev main_v356 : Ref sig .tc := ⟨.hbm, 561, rfl⟩
abbrev main_v357 : Ref sig .tc := ⟨.hbm, 562, rfl⟩
abbrev main_v358 : Ref sig .tc := ⟨.hbm, 563, rfl⟩
abbrev main_v359 : Ref sig .tc := ⟨.hbm, 564, rfl⟩
abbrev main_v360 : Ref sig .tc := ⟨.hbm, 565, rfl⟩
abbrev main_cst_81 : Ref sig .tc := ⟨.hbm, 566, rfl⟩
abbrev main_v361 : Ref sig .tc := ⟨.hbm, 567, rfl⟩
abbrev main_v362 : Ref sig .tc := ⟨.hbm, 568, rfl⟩
abbrev main_v363 : Ref sig .tc := ⟨.hbm, 569, rfl⟩
abbrev main_c_82 : Ref sig .tc := ⟨.hbm, 570, rfl⟩
abbrev main_v364 : Ref sig .tc := ⟨.hbm, 571, rfl⟩
abbrev main_v365 : Ref sig .tc := ⟨.hbm, 572, rfl⟩
abbrev main_c_83 : Ref sig .tc := ⟨.hbm, 573, rfl⟩
abbrev main_v366 : Ref sig .tc := ⟨.hbm, 574, rfl⟩
abbrev main_v367 : Ref sig .tc := ⟨.hbm, 575, rfl⟩
abbrev main_v368 : Ref sig .tc := ⟨.hbm, 576, rfl⟩
abbrev main_v369 : Ref sig .tc := ⟨.hbm, 577, rfl⟩
abbrev main_v370 : Ref sig .tc := ⟨.hbm, 578, rfl⟩
abbrev main_v371 : Ref sig .tc := ⟨.hbm, 579, rfl⟩
abbrev main_v372 : Ref sig .tc := ⟨.hbm, 580, rfl⟩
abbrev main_c_84 : Ref sig .tc := ⟨.hbm, 581, rfl⟩
abbrev main_v373 : Ref sig .tc := ⟨.hbm, 582, rfl⟩
abbrev main_v374 : Ref sig .tc := ⟨.hbm, 583, rfl⟩
abbrev main_c_85 : Ref sig .tc := ⟨.hbm, 584, rfl⟩
abbrev main_v375 : Ref sig .tc := ⟨.hbm, 585, rfl⟩
abbrev main_v376 : Ref sig .tc := ⟨.hbm, 586, rfl⟩
abbrev main_v377 : Ref sig .tc := ⟨.hbm, 587, rfl⟩
abbrev main_v378 : Ref sig .tc := ⟨.hbm, 588, rfl⟩
abbrev main_v379 : Ref sig .tc := ⟨.hbm, 589, rfl⟩
abbrev main_cst_86 : Ref sig .tc := ⟨.hbm, 590, rfl⟩
abbrev main_v380 : Ref sig .tc := ⟨.hbm, 591, rfl⟩
abbrev main_v381 : Ref sig .tc := ⟨.hbm, 592, rfl⟩
abbrev main_v382 : Ref sig .tc := ⟨.hbm, 593, rfl⟩
abbrev main_v383 : Ref sig .tc := ⟨.hbm, 594, rfl⟩
abbrev main_c_87 : Ref sig .tc := ⟨.hbm, 595, rfl⟩
abbrev main_v384 : Ref sig .tc := ⟨.hbm, 596, rfl⟩
abbrev main_v385 : Ref sig .tc := ⟨.hbm, 597, rfl⟩
abbrev main_c_88 : Ref sig .tc := ⟨.hbm, 598, rfl⟩
abbrev main_v386 : Ref sig .tc := ⟨.hbm, 599, rfl⟩
abbrev main_v387 : Ref sig .tc := ⟨.hbm, 600, rfl⟩
abbrev main_v388 : Ref sig .tc := ⟨.hbm, 601, rfl⟩
abbrev main_v389 : Ref sig .tc := ⟨.hbm, 602, rfl⟩
abbrev main_v390 : Ref sig .tc := ⟨.hbm, 603, rfl⟩
abbrev main_v391 : Ref sig .tc := ⟨.hbm, 604, rfl⟩
abbrev main_v392 : Ref sig .tc := ⟨.hbm, 605, rfl⟩
abbrev main_v393 : Ref sig .tc := ⟨.hbm, 606, rfl⟩
abbrev main_cst_89 : Ref sig .tc := ⟨.hbm, 607, rfl⟩
abbrev main_v394 : Ref sig .tc := ⟨.hbm, 608, rfl⟩
abbrev main_v395 : Ref sig .tc := ⟨.hbm, 609, rfl⟩
abbrev main_v396 : Ref sig .tc := ⟨.hbm, 610, rfl⟩
abbrev main_v397 : Ref sig .tc := ⟨.hbm, 611, rfl⟩
abbrev main_v398 : Ref sig .tc := ⟨.hbm, 612, rfl⟩
abbrev main_v399 : Ref sig .tc := ⟨.hbm, 613, rfl⟩
abbrev main_call15_cst : Ref sig .tc := ⟨.hbm, 614, rfl⟩
abbrev main_call15_v0 : Ref sig .tc := ⟨.hbm, 615, rfl⟩
abbrev main_call15_v1 : Ref sig .tc := ⟨.hbm, 616, rfl⟩
abbrev main_call15_cst_0 : Ref sig .tc := ⟨.hbm, 617, rfl⟩
abbrev main_call15_v2 : Ref sig .tc := ⟨.hbm, 618, rfl⟩
abbrev main_call15_v3 : Ref sig .tc := ⟨.hbm, 619, rfl⟩
abbrev main_call15_cst_1 : Ref sig .tc := ⟨.hbm, 620, rfl⟩
abbrev main_call15_call0_v0 : Ref sig .tc := ⟨.hbm, 621, rfl⟩
abbrev main_call15_call0_v1 : Ref sig .tc := ⟨.hbm, 622, rfl⟩
abbrev main_call15_v4 : Ref sig .tc := ⟨.hbm, 623, rfl⟩
abbrev main_call15_v5 : Ref sig .tc := ⟨.hbm, 624, rfl⟩
abbrev main_call15_cst_2 : Ref sig .tc := ⟨.hbm, 625, rfl⟩
abbrev main_call15_v6 : Ref sig .tc := ⟨.hbm, 626, rfl⟩
abbrev main_call15_v7 : Ref sig .tc := ⟨.hbm, 627, rfl⟩
abbrev main_v400 : Ref sig .tc := ⟨.hbm, 628, rfl⟩
abbrev main_v401 : Ref sig .tc := ⟨.hbm, 629, rfl⟩
abbrev main_v402 : Ref sig .tc := ⟨.hbm, 630, rfl⟩
abbrev main_v403 : Ref sig .tc := ⟨.hbm, 631, rfl⟩
abbrev main_v404 : Ref sig .tc := ⟨.hbm, 632, rfl⟩
abbrev main_v405 : Ref sig .tc := ⟨.hbm, 633, rfl⟩
abbrev main_v406 : Ref sig .tc := ⟨.hbm, 634, rfl⟩
abbrev main_v407 : Ref sig .tc := ⟨.hbm, 635, rfl⟩
abbrev main_v408 : Ref sig .tc := ⟨.hbm, 636, rfl⟩
abbrev main_v409 : Ref sig .tc := ⟨.hbm, 637, rfl⟩
abbrev main_v410 : Ref sig .tc := ⟨.hbm, 638, rfl⟩
abbrev main_cst_90 : Ref sig .tc := ⟨.hbm, 639, rfl⟩
abbrev main_v411 : Ref sig .tc := ⟨.hbm, 640, rfl⟩
abbrev main_cst_91 : Ref sig .tc := ⟨.hbm, 641, rfl⟩
abbrev main_v412 : Ref sig .tc := ⟨.hbm, 642, rfl⟩
abbrev main_v413 : Ref sig .tc := ⟨.hbm, 643, rfl⟩
abbrev main_v414 : Ref sig .tc := ⟨.hbm, 644, rfl⟩
abbrev main_v415 : Ref sig .tc := ⟨.hbm, 645, rfl⟩
abbrev main_v416 : Ref sig .tc := ⟨.hbm, 646, rfl⟩
abbrev main_v417 : Ref sig .tc := ⟨.hbm, 647, rfl⟩
abbrev main_cst_92 : Ref sig .tc := ⟨.hbm, 648, rfl⟩
abbrev main_v418 : Ref sig .tc := ⟨.hbm, 649, rfl⟩
abbrev main_v419 : Ref sig .tc := ⟨.hbm, 650, rfl⟩
abbrev main_v420 : Ref sig .tc := ⟨.hbm, 651, rfl⟩
abbrev main_v421 : Ref sig .tc := ⟨.hbm, 652, rfl⟩
abbrev main_v422 : Ref sig .tc := ⟨.hbm, 653, rfl⟩
abbrev main_v423 : Ref sig .tc := ⟨.hbm, 654, rfl⟩
abbrev main_cst_93 : Ref sig .tc := ⟨.hbm, 655, rfl⟩
abbrev main_v424 : Ref sig .tc := ⟨.hbm, 656, rfl⟩
abbrev main_v425 : Ref sig .tc := ⟨.hbm, 657, rfl⟩
abbrev main_v426 : Ref sig .tc := ⟨.hbm, 658, rfl⟩
abbrev main_v427 : Ref sig .tc := ⟨.hbm, 659, rfl⟩

abbrev nD : Nat := 1
abbrev τ : Topo := Topo.v7x

variable {F : FTy → Type} [FloatOps F]
-- ==== Proof.Stage.lean ====
/- The stages of the two encoders, as functions of arrays: what one graph attention, one semantic attention and one
   encoder compute. Both programs' host code is read as compositions of these. -/
module

public import proofs.«01_k».proof.Proof.Gen.KernelIdeal

@[expose] public section

noncomputable section

namespace Cert.Stage

open Idealize.ShloMosaic Cert.KernelIdeal Cert.KernelIdeal.Gen

variable {F : FTy → Type} [FloatOps F]

/-- A float array of shape `s`. -/
abbrev Arr (F : FTy → Type) (s : Shape) : Type := (⟨s, .f32⟩ : BufTy).Contents (Elt F)
/-- An array of 32-bit integers of shape `s`. -/
abbrev Ints (F : FTy → Type) (s : Shape) : Type := (⟨s, .i32⟩ : BufTy).Contents (Elt F)

/-- The source nodes of the edges: row 0 of an edge list. -/
def srcOf (ei : Ints F S2x320000) : Ints F S320000 :=
  shapeCast S320000 (extractStridedSlice S1x320000 ![0, 0] ei slices_S2x320000_S1x320000_0_0) shapeCasts_S1x320000_S320000

/-- The destination nodes of the edges: row 1 of an edge list. -/
def dstOf (ei : Ints F S2x320000) : Ints F S320000 :=
  shapeCast S320000 (extractStridedSlice S1x320000 ![1, 0] ei slices_S2x320000_S1x320000_1_0) shapeCasts_S1x320000_S320000

/-- Node numbers as a column. -/
def col (i : Ints F S320000) : Ints F S320000x1 := broadcastInDim S320000x1 ![0] bcast_S320000_S320000x1_0 i

/-- Node numbers as a column, a negative one counted from the end. -/
def wrap (i : Ints F S320000) : Ints F S320000x1 :=
  col (F := F) (select (cmpi .slt i (broadcastInDim S320000 ![] bcast_S_S320000 (constantI S_ 32 0#32)))
    (addi i (broadcastInDim S320000 ![] bcast_S_S320000 (constantI S_ 32 10000#32))) i)

/-- The nodes' features, 8 heads of 64. -/
def proj (wh : Arr F S10000x64) (Wg : Arr F S64x512) : Arr F S10000x8x64 :=
  shapeCast S10000x8x64 (Host.dotGeneral dot_S10000x64_S64x512_S10000x512_1_0_0_1_n_n none wh Wg) shapeCasts_S10000x512_S10000x8x64

/-- A vector of 64 per head, repeated for every node. -/
def spread (a : Arr F S8x64) : Arr F S10000x8x64 :=
  broadcastInDim S10000x8x64 ![0, 1, 2] bcast_S1x8x64_S10000x8x64_0_1_2 (broadcastInDim S1x8x64 ![1, 2] bcast_S8x64_S1x8x64_1_2 a)

/-- Each node's and head's product with an attention vector. -/
def score (ft : Arr F S10000x8x64) (a : Arr F S8x64) : Arr F S10000x8 :=
  Host.reduceAdd (mulf ft (spread a)) (constant S_ .f32 0x00000000#32) reducesTo_S10000x8x64_S10000x8_d2 h_S_

/-- Each edge's row of a table of the nodes. -/
def pick (x : Arr F S10000x8) (i : Ints F S320000) : Arr F S320000x8 :=
  Host.gather gather_S10000x8_S320000x1_S320000x8_1_0_n_n_0_1_18 x (wrap (F := F) i)

/-- The edges' attention logits before the leaky rectifier. -/
def logits (ft : Arr F S10000x8x64) (al ar : Arr F S8x64) (src dst : Ints F S320000) : Arr F S320000x8 :=
  addf (pick (score ft al) src) (pick (score ft ar) dst)

/-- The leaky rectifier of slope 0.2. -/
def leaky (e : Arr F S320000x8) : Arr F S320000x8 :=
  select (cmpf .oge e (broadcastInDim S320000x8 ![] bcast_S_S320000x8 (constant S_ .f32 0x00000000#32))) e
    (mulf (broadcastInDim S320000x8 ![] bcast_S_S320000x8 (id (constant S_ .f32 0x3E4CCCCD#32))) e)

/-- For each node the sum of its incoming edges' rows. -/
def total (dst : Ints F S320000) (x : Arr F S320000x8) : Arr F S10000x8 :=
  Host.scatterAdd scatter_S10000x8_S320000x1_S320000x8_1_0_0_1
    (broadcastInDim S10000x8 ![] bcast_S_S10000x8 (constant S_ .f32 0x00000000#32)) (col (F := F) dst) x

/-- The softmax over a node's incoming edges as the kernel takes it: no shift, the guard 1e-9 added as it is. -/
def alphaPlain (e : Arr F S320000x8) (dst : Ints F S320000) : Arr F S320000x8 :=
  Host.divf (Host.exp e) (addf (pick (total dst (Host.exp e)) dst)
    (broadcastInDim S320000x8 ![] bcast_S_S320000x8 (constant S_ .f32 0x3089705F#32)))

/-- The softmax over a node's incoming edges with the logits shifted by the nodes' `M`, the guard scaled by `exp (-M)`. -/
def alphaShift (M : Arr F S10000x8) (e : Arr F S320000x8) (dst : Ints F S320000) : Arr F S320000x8 :=
  Host.divf (Host.exp (subf e (pick M dst))) (addf (pick (total dst (Host.exp (subf e (pick M dst)))) dst)
    (mulf (broadcastInDim S320000x8 ![] bcast_S_S320000x8 (constant S_ .f32 0x3089705F#32)) (pick (Host.exp (Host.negf M)) dst)))

/-- A table of the nodes where it is finite, and 0 elsewhere. -/
def finite (M : Arr F S10000x8) : Arr F S10000x8 :=
  select (cmpf .olt (Host.absf M) (broadcastInDim S10000x8 ![] bcast_S_S10000x8 (constant S_ .f32 0x7F800000#32))) M
    (broadcastInDim S10000x8 ![] bcast_S_S10000x8 (id (constant S_ .f32 0x00000000#32)))

/-- The sum of the sources' features by the edges' weights, plus the bias. -/
def aggregate (ft : Arr F S10000x8x64) (a : Arr F S320000x8) (src dst : Ints F S320000) (b : Arr F S8x64) : Arr F S10000x8x64 :=
  addf (Host.scatterAdd scatter_S10000x8x64_S320000x1_S320000x8x64_12_0_0_1
      (broadcastInDim S10000x8x64 ![] bcast_S_S10000x8x64 (constant S_ .f32 0x00000000#32)) (col (F := F) dst)
      (mulf (Host.gather gather_S10000x8x64_S320000x1_S320000x8x64_12_0_n_n_0_1_1864 ft (wrap (F := F) src))
        (broadcastInDim S320000x8x64 ![0, 1, 2] bcast_S320000x8x1_S320000x8x64_0_1_2
          (broadcastInDim S320000x8x1 ![0, 1] bcast_S320000x8_S320000x8x1_0_1 a)))) (spread b)

/-- The exponential linear unit. -/
def elu (x : Arr F S10000x8x64) : Arr F S10000x8x64 :=
  select (cmpf .ogt x (broadcastInDim S10000x8x64 ![] bcast_S_S10000x8x64 (constant S_ .f32 0x00000000#32))) x
    (mulf (broadcastInDim S10000x8x64 ![] bcast_S_S10000x8x64 (constant S_ .f32 0x3F800000#32))
      (Host.expm1 (select (cmpf .ogt x (broadcastInDim S10000x8x64 ![] bcast_S_S10000x8x64 (constant S_ .f32 0x00000000#32)))
        (broadcastInDim S10000x8x64 ![] bcast_S_S10000x8x64 (id (constant S_ .f32 0x00000000#32))) x)))

/-- The heads laid side by side. -/
def flat (x : Arr F S10000x8x64) : Arr F S10000x512 := shapeCast S10000x512 x shapeCasts_S10000x8x64_S10000x512

/-- The embeddings of the two edge lists, stacked. -/
def stack (z1 z2 : Arr F S10000x512) : Arr F S10000x2x512 :=
  concatenate S10000x2x512 1 [⟨S10000x1x512, broadcastInDim S10000x1x512 ![0, 2] bcast_S10000x512_S10000x1x512_0_2 z1⟩,
    ⟨S10000x1x512, broadcastInDim S10000x1x512 ![0, 2] bcast_S10000x512_S10000x1x512_0_2 z2⟩]
    concatenates_S10000x1x512_S10000x1x512_S10000x2x512_d1

/-- The semantic attention's logits of the two embeddings. -/
def weigh (z : Arr F S10000x2x512) (W1 : Arr F S512x128) (b1 : Arr F S128) (W2 : Arr F S128x1) : Arr F S10000x2x1 :=
  Host.dotGeneral dot_S10000x2x128_S128x1_S10000x2x1_2_0_01_1_n_n none
    (Host.tanh (addf (Host.dotGeneral dot_S10000x2x512_S512x128_S10000x2x128_2_0_01_1_n_n none z W1)
      (broadcastInDim S10000x2x128 ![0, 1, 2] bcast_S1x1x128_S10000x2x128_0_1_2 (broadcastInDim S1x1x128 ![2] bcast_S128_S1x1x128_2 b1)))) W2

/-- A node's value, repeated for its two embeddings. -/
def pair (x : Arr F S10000x1) : Arr F S10000x2x1 :=
  broadcastInDim S10000x2x1 ![0, 1, 2] bcast_S10000x1x1_S10000x2x1_0_1_2 (broadcastInDim S10000x1x1 ![0, 2] bcast_S10000x1_S10000x1x1_0_2 x)

/-- The shifted exponentials of the softmax over the two embeddings. -/
def heights (w : Arr F S10000x2x1) : Arr F S10000x2x1 :=
  Host.exp (subf w (pair (maximumf (broadcastInDim S10000x1 ![] bcast_S_S10000x1 (constant S_ .f32 0xFF800000#32))
    (Host.reduce FloatOps.maximumf w (constant S_ .f32 0xFF800000#32) reducesTo_S10000x2x1_S10000x1_d1 h_S_))))

/-- The softmax over the two embeddings. -/
def shares (w : Arr F S10000x2x1) : Arr F S10000x2x1 :=
  Host.divf (heights w) (pair (Host.reduceAdd (heights w) (constant S_ .f32 0x00000000#32) reducesTo_S10000x2x1_S10000x1_d1 h_S_))

/-- The embeddings mixed by their shares, then projected. -/
def mix (z : Arr F S10000x2x512) (beta : Arr F S10000x2x1) (Wp : Arr F S512x64) : Arr F S10000x64 :=
  Host.dotGeneral dot_S10000x512_S512x64_S10000x64_1_0_0_1_n_n none
    (Host.reduceAdd (mulf (broadcastInDim S10000x2x512 ![0, 1, 2] bcast_S10000x2x1_S10000x2x512_0_1_2 beta) z)
      (constant S_ .f32 0x00000000#32) reducesTo_S10000x2x512_S10000x512_d1 h_S_) Wp

/-- Semantic attention over two embeddings, and the projection. -/
def semantic (z1 z2 : Arr F S10000x512) (W1 : Arr F S512x128) (b1 : Arr F S128) (W2 : Arr F S128x1) (Wp : Arr F S512x64) :
    Arr F S10000x64 :=
  mix (stack z1 z2) (shares (weigh (stack z1 z2) W1 b1 W2)) Wp

/-- The nodes' hidden features. -/
def hidden (h : Arr F S10000x128) (Ww : Arr F S128x64) : Arr F S10000x64 :=
  Host.dotGeneral dot_S10000x128_S128x64_S10000x64_1_0_0_1_n_n none h Ww

/-- One graph attention, with the kernel's softmax. -/
def gat (wh : Arr F S10000x64) (ei : Ints F S2x320000) (Wg : Arr F S64x512) (al ar b : Arr F S8x64) : Arr F S10000x8x64 :=
  aggregate (proj wh Wg) (alphaPlain (leaky (logits (proj wh Wg) al ar (srcOf (F := F) ei) (dstOf (F := F) ei))) (dstOf (F := F) ei))
    (srcOf (F := F) ei) (dstOf (F := F) ei) b

/-- One encoder, with the kernel's softmax. -/
def encoder (h : Arr F S10000x128) (ei0 ei1 : Ints F S2x320000) (Ww : Arr F S128x64)
    (Wg0 : Arr F S64x512) (al0 ar0 b0 : Arr F S8x64) (Wg1 : Arr F S64x512) (al1 ar1 b1 : Arr F S8x64)
    (sW1 : Arr F S512x128) (sb1 : Arr F S128) (sW2 : Arr F S128x1) (Wp : Arr F S512x64) : Arr F S10000x64 :=
  semantic (flat (elu (gat (hidden h Ww) ei0 Wg0 al0 ar0 b0))) (flat (elu (gat (hidden h Ww) ei1 Wg1 al1 ar1 b1))) sW1 sb1 sW2 Wp

/-- Encoders of equal arguments are equal. -/
theorem same {h h' : Arr F S10000x128} {e e' f f' : Ints F S2x320000} {w w' : Arr F S128x64} {g g' : Arr F S64x512}
    {l l' r r' b b' : Arr F S8x64} {k k' : Arr F S64x512} {u u' v v' d d' : Arr F S8x64} {p p' : Arr F S512x128}
    {q q' : Arr F S128} {s s' : Arr F S128x1} {t t' : Arr F S512x64} (hh : h = h') (he : e = e') (hf : f = f') (hw : w = w')
    (hg : g = g') (hl : l = l') (hr : r = r') (hb : b = b') (hk : k = k') (hu : u = u') (hv : v = v') (hd : d = d') (hp : p = p')
    (hq : q = q') (hs : s = s') (ht : t = t') :
    encoder h e f w g l r b k u v d p q s t = encoder h' e' f' w' g' l' r' b' k' u' v' d' p' q' s' t' := by
  subst hh he hf hw hg hl hr hb hk hu hv hd hp hq hs ht; rfl

end Cert.Stage

end
-- ==== Proof.Host.lean ====
/- What the kernel's host code leaves in the two arrays the tiles are cut from: the two encoders' results. The host
   operations are read in six groups, each over arbitrary contents before it. -/
module

public import proofs.«01_k».proof.Proof.Stage
public import proofs.«01_k».proof.Proof.Gen.KernelIdeal.Launch
public import Idealize.ShloMosaic.Lib.StableHlo.RunRead
public import Idealize.ShloMosaic.Lib.Pipeline.Frame

@[expose] public section

set_option maxRecDepth 4096

noncomputable section

namespace Cert.Host

open Idealize.ShloMosaic Idealize.ShloMosaic.TcCoe Idealize.ShloMosaic.StableHlo Cert.KernelIdeal Cert.KernelIdeal.Gen Cert.Stage

variable {F : FTy → Type} [FloatOps F]

/-- The contents of the buffers of a device. -/
abbrev Mem (F : FTy → Type) : Type := Valuation τ sig (Elt F)

/-- A line of operations writes no buffer numbered below `n`. -/
abbrev From (n : ℕ) (ops : List (HloOp τ sig (Elt F))) : Prop :=
  ops.Forall fun op => ∃ r : Ref sig .tc, op.writes = {Proc.devRef .tc r} ∧ n ≤ r.idx.val

/-- Such a line keeps what a buffer numbered below `n` holds. -/
theorem keeps {n : ℕ} {ops : List (HloOp τ sig (Elt F))} (h : From n ops) (r : Ref sig .tc) (hr : r.idx.val < n) (W : Mem F) :
    after ops W r = W r := by
  refine after_of_forall_not_mem (b := Proc.devRef .tc r) _ _ fun op hop => ?_
  obtain ⟨s, hs, hn⟩ := List.forall_iff_forall_mem.mp h op hop
  rw [hs, Finset.mem_singleton]
  refine devRef_ne_of_ne fun e => ?_
  subst e
  omega

/-- The operations that compute the hidden features and the first embedding, of the first encoder. -/
abbrev lineA : List (HloOp τ sig (Elt F)) := hostOps0 ++ (hostOps0_1 ++ (hostOps0_2 ++ hostOps0_3))
/-- The operations that compute the second embedding of the first encoder. -/
abbrev lineB : List (HloOp τ sig (Elt F)) := hostOps0_4 ++ (hostOps0_5 ++ (hostOps0_6 ++ hostOps0_7))
/-- The operations that compute the first encoder's result, and the second encoder's first logits. -/
abbrev lineC : List (HloOp τ sig (Elt F)) := hostOps0_8
/-- The operations that compute the first embedding of the second encoder. -/
abbrev lineD : List (HloOp τ sig (Elt F)) := hostOps0_9 ++ (hostOps0_10 ++ hostOps0_11)
/-- The operations that compute the second embedding of the second encoder. -/
abbrev lineE : List (HloOp τ sig (Elt F)) := hostOps0_12 ++ (hostOps0_13 ++ (hostOps0_14 ++ hostOps0_15))
/-- The operations that compute the second encoder's result. -/
abbrev lineF : List (HloOp τ sig (Elt F)) := hostOps0_16

/-- They write no buffer numbered below 32. -/
theorem fromA : From (F := F) 32 lineA := by
  simp only [From, lineA, List.cons_append, List.nil_append, List.Forall]; repeat' apply And.intro
  all_goals exact ⟨_, rfl, by decide⟩
/-- They write no buffer numbered below 128. -/
theorem fromB : From (F := F) 128 lineB := by
  simp only [From, lineB, List.cons_append, List.nil_append, List.Forall]; repeat' apply And.intro
  all_goals exact ⟨_, rfl, by decide⟩
/-- They write no buffer numbered below 224. -/
theorem fromC : From (F := F) 224 lineC := by
  simp only [From, lineC, List.cons_append, List.nil_append, List.Forall]; repeat' apply And.intro
  all_goals exact ⟨_, rfl, by decide⟩
/-- They write no buffer numbered below 253. -/
theorem fromD : From (F := F) 253 lineD := by
  simp only [From, lineD, List.cons_append, List.nil_append, List.Forall]; repeat' apply And.intro
  all_goals exact ⟨_, rfl, by decide⟩
/-- They write no buffer numbered below 253. -/
theorem fromE : From (F := F) 253 lineE := by
  simp only [From, lineE, List.cons_append, List.nil_append, List.Forall]; repeat' apply And.intro
  all_goals exact ⟨_, rfl, by decide⟩
/-- They write no buffer numbered below 253. -/
theorem fromF : From (F := F) 253 lineF := by
  simp only [From, lineF, List.cons_append, List.nil_append, List.Forall]; repeat' apply And.intro
  all_goals exact ⟨_, rfl, by decide⟩

/-- The hidden features of the first encoder. -/
theorem A_v0 (W : Mem F) : after lineA W main_v0 = hidden (W main_arg0) (W main_arg6) := by
  after_reads_simp; rfl

/-- The first embedding of the first encoder. -/
theorem A_v61 (W : Mem F) : after lineA W main_v61 =
    elu (gat (hidden (W main_arg0) (W main_arg6)) (W main_arg2) (W main_arg7) (W main_arg8) (W main_arg9) (W main_arg10)) := by
  after_reads_simp; rfl

/-- The first embedding, its heads side by side. -/
theorem B_v62 (W : Mem F) : after lineB W main_v62 = flat (W main_v61) := by
  after_reads_simp; rfl

/-- The second embedding of the first encoder. -/
theorem B_v123 (W : Mem F) : after lineB W main_v123 =
    elu (gat (W main_v0) (W main_arg3) (W main_arg11) (W main_arg12) (W main_arg13) (W main_arg14)) := by
  after_reads_simp; rfl

/-- The first encoder's result. -/
theorem C_v148 (W : Mem F) : after lineC W main_v148 =
    semantic (W main_v62) (flat (W main_v123)) (W main_arg15) (W main_arg16) (W main_arg17) (W main_arg18) := by
  after_reads_simp; rfl

/-- The hidden features of the second encoder. -/
theorem CD_v149 (W : Mem F) : after lineD (after lineC W) main_v149 = hidden (W main_arg1) (W main_arg19) := by
  after_reads_simp; rfl

/-- The first embedding of the second encoder. -/
theorem CD_v210 (W : Mem F) : after lineD (after lineC W) main_v210 =
    elu (gat (hidden (W main_arg1) (W main_arg19)) (W main_arg4) (W main_arg20) (W main_arg21) (W main_arg22) (W main_arg23)) := by
  after_reads_simp; rfl

/-- The first embedding of the second encoder, its heads side by side. -/
theorem E_v211 (W : Mem F) : after lineE W main_v211 = flat (W main_v210) := by
  after_reads_simp; rfl

/-- The second embedding of the second encoder. -/
theorem E_v272 (W : Mem F) : after lineE W main_v272 =
    elu (gat (W main_v149) (W main_arg5) (W main_arg24) (W main_arg25) (W main_arg26) (W main_arg27)) := by
  after_reads_simp; rfl

/-- The second encoder's result. -/
theorem F_v297 (W : Mem F) : after lineF W main_v297 =
    semantic (W main_v211) (flat (W main_v272)) (W main_arg28) (W main_arg29) (W main_arg30) (W main_arg31) := by
  after_reads_simp; rfl

/-- The operations up to the region, in groups. -/
abbrev lines : List (HloOp τ sig (Elt F)) := lineA ++ (lineB ++ (lineC ++ (lineD ++ (lineE ++ lineF))))

/-- After all of them the first array holds the first encoder's result. -/
theorem lines_v148 (W : Mem F) : after lines W main_v148 =
    encoder (W main_arg0) (W main_arg2) (W main_arg3) (W main_arg6) (W main_arg7) (W main_arg8) (W main_arg9) (W main_arg10)
      (W main_arg11) (W main_arg12) (W main_arg13) (W main_arg14) (W main_arg15) (W main_arg16) (W main_arg17) (W main_arg18) := by
  have keepA := fun r hr => keeps fromA r hr W
  have keepB := fun r hr => keeps fromB r hr (after lineA W)
  rw [lines, after_append, after_append, after_append, after_append, after_append,
    keeps fromF main_v148 (by decide), keeps fromE main_v148 (by decide), keeps fromD main_v148 (by decide), C_v148, B_v62, B_v123,
    A_v61, A_v0, keepB main_arg15 (by decide), keepB main_arg16 (by decide), keepB main_arg17 (by decide), keepB main_arg18 (by decide),
    keepA main_arg3 (by decide), keepA main_arg11 (by decide), keepA main_arg12 (by decide), keepA main_arg13 (by decide),
    keepA main_arg14 (by decide), keepA main_arg15 (by decide), keepA main_arg16 (by decide), keepA main_arg17 (by decide),
    keepA main_arg18 (by decide)]
  rfl

/-- What a low buffer holds is kept by the first two groups. -/
theorem keepAB (W : Mem F) (r : Ref sig .tc) (hr : r.idx.val < 32) : after lineB (after lineA W) r = W r :=
  (keeps fromB r (by omega) _).trans (keeps fromA r hr W)

/-- And by the first four. -/
theorem keepABCD (W : Mem F) (r : Ref sig .tc) (hr : r.idx.val < 32) :
    after lineD (after lineC (after lineB (after lineA W))) r = W r :=
  (keeps fromD r (by omega) _).trans ((keeps fromC r (by omega) _).trans (keepAB W r hr))

/-- After all of them the second array holds the second encoder's result. -/
theorem lines_v297 (W : Mem F) : after lines W main_v297 =
    encoder (W main_arg1) (W main_arg4) (W main_arg5) (W main_arg19) (W main_arg20) (W main_arg21) (W main_arg22) (W main_arg23)
      (W main_arg24) (W main_arg25) (W main_arg26) (W main_arg27) (W main_arg28) (W main_arg29) (W main_arg30) (W main_arg31) := by
  have keepE := fun r hr => keeps fromE r hr (after lineD (after lineC (after lineB (after lineA W))))
  have keep2 := keepAB W
  have keep4 := keepABCD W
  rw [lines, after_append, after_append, after_append, after_append, after_append, F_v297, E_v211, E_v272, CD_v149, CD_v210,
    keepE main_arg28 (by decide), keepE main_arg29 (by decide), keepE main_arg30 (by decide), keepE main_arg31 (by decide),
    keep4 main_arg5 (by decide), keep4 main_arg24 (by decide), keep4 main_arg25 (by decide), keep4 main_arg26 (by decide),
    keep4 main_arg27 (by decide), keep4 main_arg28 (by decide), keep4 main_arg29 (by decide), keep4 main_arg30 (by decide),
    keep4 main_arg31 (by decide), keep2 main_arg1 (by decide), keep2 main_arg4 (by decide), keep2 main_arg19 (by decide),
    keep2 main_arg20 (by decide), keep2 main_arg21 (by decide), keep2 main_arg22 (by decide), keep2 main_arg23 (by decide)]
  rfl

end Cert.Host

end
-- ==== Proof.Tile.lean ====
/- What the tiled product leaves in the third result: on the tiles it writes, rows of the first operand times rows of the
   second. -/
module

public import proofs.«01_k».proof.Proof.Gen.KernelIdeal.Value
public import Idealize.ShloMosaic.Lib.MatmulPlain
public import Idealize.ShloMosaic.Lib.Pipeline.ValueKit.Geometry

@[expose] public section

set_option maxRecDepth 16384

noncomputable section

namespace Cert.Tile

open Idealize.ShloMosaic Idealize.ShloMosaic.TcCoe Idealize.ShloMosaic.ValueIdx Idealize.SL.Sem
open Cert.KernelIdeal Cert.KernelIdeal.Gen Cert.KernelIdeal.Value
open scoped BigOperators

theorem corner : (![0, 0] : Fin 2 → Nat) = fun _ => 0 := funext fun a => by fin_cases a <;> rfl

/-- The body stores the product of its two blocks over the whole of its output block. -/
theorem body {F : FTy → Type} [FloatOps F] (c : Dev nD) (i : grid0.Coords) (a : Memref sig .tc .vmem S512x64 .f32) (ha : a.IsWhole)
    (b : Memref sig .tc .vmem S1024x64 .f32) (hb : b.IsWhole) (o : Memref sig .tc .vmem S512x1024 .f32) (ho : o.IsWhole)
    (x : Vec F S512x64 .f32) (y : Vec F S1024x64 .f32) : out0_A_2 c i a ha b hb o ho x y = k0_pay1 x y := by
  unfold out0_A_2
  rw [View.read_writes_junk_eq_canon]
  show View.canon ([⟨Rect.unit ![0, 0] S512x1024.size inb_S512x1024_S512x1024_0_0,
      k0_pay1
        (View.readAt (Elt F) a.view (Rect.unit (s := S512x64) ![0, 0] S512x64.size inb_S512x64_S512x64_0_0).toLoadRect (ha.unread x))
        (View.readAt (Elt F) b.view (Rect.unit (s := S1024x64) ![0, 0] S1024x64.size inb_S1024x64_S1024x64_0_0).toLoadRect
          (hb.unread y))⟩] : List (View.Piece (Elt F) S512x1024 .f32)) = _
  rw [View.canon_unit_zero corner, View.readAt_eq_ld, View.readAt_eq_ld, ha.read_unread, hb.read_unread,
    View.ld_unit_zero corner, View.ld_unit_zero corner]

/-- An entry of a block's product, over exact reals. -/
theorem entry (x : Vec Ideal S512x64 .f32) (y : Vec Ideal S1024x64 .f32) (p : Fin 512) (q : Fin 1024) :
    k0_pay1 (F := Ideal) x y (ix2 p q) = ∑ k : Fin 64, (x (ix2 p k) * y (ix2 q k) : EReal) := by
  have hx : shapeCast S512x64 x shapeCasts_S512x64_S512x64 = x := shapeCast_self _ _
  have hy : shapeCast S1024x64 y shapeCasts_S1024x64_S1024x64 = y := shapeCast_self _ _
  unfold k0_pay1
  rw [hx, hy]
  refine (Ideal.matmul_transposedRhs_apply (M := 512) (K := 64) (N := 1024) none x y _ p q).trans ?_
  rw [show (constant (F := Ideal) S512x1024 .f32 0x00000000#32) (ix2 p q) = (0 : EReal) from Ideal.ofBits_zero_f32]
  exact zero_add _

theorem index0 : ∀ t : Fin cfg0.N, win0_0.index t = ![(grid0.coords t 0).val, 0] := (by decide +kernel : ∀ t : Fin grid0.N, _)
theorem index1 : ∀ t : Fin cfg0.N, win0_1.index t = ![(grid0.coords t 1).val, 0] := (by decide +kernel : ∀ t : Fin grid0.N, _)
theorem index2 : ∀ t : Fin cfg0.N, win0_2.index t = ![(grid0.coords t 0).val, (grid0.coords t 1).val] :=
  (by decide +kernel : ∀ t : Fin grid0.N, _)

/-- Every pair of tile coordinates is some grid point's. -/
theorem point : ∀ (a : Fin 19) (b : Fin 9), ∃ t : Fin grid0.N, (grid0.coords t 0).val = a.val ∧ (grid0.coords t 1).val = b.val := by
  decide +kernel

/-- No output block is cut at the array's edge. -/
theorem whole2 : ∀ t : Fin cfg0.N, ∀ a, (cfg0.win 2).xsize (cfg0.grid.coords t) a = (cfg0.win 2).size a :=
  (by decide +kernel : ∀ t : Fin grid0.N, _)

/-- The place `(p, q)` of an output block. -/
def place (t : Fin cfg0.N) (p : Fin 512) (q : Fin 1024) : ((cfg0.win 2).xblock (cfg0.grid.coords t)).Idx :=
  fun a => ⟨(ix2 p q a).val, by rw [show ((cfg0.win 2).xblock (cfg0.grid.coords t)).size a = _ from whole2 t a]; exact (ix2 p q a).isLt⟩

variable (m : (ℓ : Loc nD τ sig) → Buf (Elt Ideal) ℓ)

/-- A grid point's first block holds 512 rows of the first operand. -/
theorem block0 (c : Dev nD) (t : Fin cfg0.N) (p : Fin 512) (k : Fin 64) (r : Fin 10000) (hr : r.val = (grid0.coords t 0).val * 512 + p.val) :
    X0_0 m c t (ix2 p k) = V m c main_v148 (ix2 r k) := by
  unfold X0_0 Pipeline.Window.fill
  rw [dif_pos (moved0_0 t _)]
  unfold iblk
  blk_ext [index0]
  exact hr.symm

/-- A grid point's second block holds 1024 rows of the second operand. -/
theorem block1 (c : Dev nD) (t : Fin cfg0.N) (q : Fin 1024) (k : Fin 64) (r : Fin 10000) (hr : r.val = (grid0.coords t 1).val * 1024 + q.val) :
    X0_1 m c t (ix2 q k) = V m c main_v297 (ix2 r k) := by
  unfold X0_1 Pipeline.Window.fill
  rw [dif_pos (moved0_1 t _)]
  unfold iblk
  blk_ext [index1]
  exact hr.symm

/-- An entry under the tiles, after the run: its row of the first operand times its column's row of the second. -/
theorem written (c : Dev nD) (x y : FVec Ideal S10000x64 .f32) (hx : V m c main_v148 = x) (hy : V m c main_v297 = y) (r s : Fin 10000)
    (hr : r.val < 9728) (hs : s.val < 9216) :
    ((dats m 0 c).arrAt 2 cfg0.N : FVec Ideal S10000x10000 .f32) (ix2 r s) = ∑ k : Fin 64, (x (ix2 r k) * y (ix2 s k) : EReal) := by
  obtain ⟨t, h0, h1⟩ := point ⟨r.val / 512, by omega⟩ ⟨s.val / 1024, by omega⟩
  have h0 : (grid0.coords t 0).val = r.val / 512 := h0
  have h1 : (grid0.coords t 1).val = s.val / 1024 := h1
  let p : Fin 512 := ⟨r.val % 512, by omega⟩
  let q : Fin 1024 := ⟨s.val % 1024, by omega⟩
  have hp : r.val = (grid0.coords t 0).val * 512 + p.val := by rw [h0]; show _ = _ + r.val % 512; omega
  have hq : s.val = (grid0.coords t 1).val * 1024 + q.val := by rw [h1]; show _ = _ + s.val % 1024; omega
  have hb := congrFun (blocks2 m c t (flush0_2 t)) (place t p q)
  rw [flushed2_A, body] at hb
  have he : ((cfg0.win 2).blk t).view.emb (place t p q) = ix2 r s := by
    blk_ext [index2]
    · exact hp.symm
    · exact hq.symm
  have hi : (cfg0.win 2).xinj (grid0.coords t) (place t p q) = ix2 p q := by
    funext a; apply Fin.ext
    match a with
    | ⟨0, _⟩ => rfl
    | ⟨1, _⟩ => rfl
  have hc : (cfg0.win 2).cut (grid0.coords t) (k0_pay1 (X0_0 m c t) (X0_1 m c t)) (place t p q)
      = k0_pay1 (X0_0 m c t) (X0_1 m c t) (ix2 p q) := congrArg (k0_pay1 (X0_0 m c t) (X0_1 m c t)) hi
  have hl : ((cfg0.win 2).blk t).view.read (Elt Ideal) ((dats m 0 c).arrAt 2 cfg0.N) (place t p q)
      = (dats m 0 c).arrAt 2 cfg0.N (ix2 r s) := congrArg ((dats m 0 c).arrAt 2 cfg0.N) he
  rw [← hl, hb, hc]
  refine (entry _ _ p q).trans (Finset.sum_congr rfl fun k _ => ?_)
  rw [block0 m c t p k r hp, block1 m c t q k s hq, hx, hy]

end Cert.Tile

end
-- ==== Proof.Kern.lean ====
/- What the kernel's run leaves: two encoders' results, and their product under the tiles. -/
module

public import proofs.«01_k».proof.Proof.Host
public import proofs.«01_k».proof.Proof.Tile

@[expose] public section

set_option maxRecDepth 16384

noncomputable section

namespace Cert.Kern

open scoped BigOperators
open Idealize.ShloMosaic Idealize.ShloMosaic.TcCoe Idealize.ShloMosaic.ValueIdx Idealize.SL.Sem
open Cert.KernelIdeal Cert.KernelIdeal.Gen Cert.KernelIdeal.Value Cert.Stage

variable (m : (ℓ : Loc nD τ sig) → Buf (Elt Ideal) ℓ) (ρ : Dev nD → PrngReg)

/-- The first encoder's result, of the arguments as launched. -/
def first (c : Dev nD) : Arr Ideal S10000x64 :=
  encoder (m ((c.tc : Thread nD τ).loc main_arg0)) (m ((c.tc : Thread nD τ).loc main_arg2))
    (m ((c.tc : Thread nD τ).loc main_arg3)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) (m ((c.tc : Thread nD τ).loc main_arg16))
    (m ((c.tc : Thread nD τ).loc main_arg17)) (m ((c.tc : Thread nD τ).loc main_arg18))

/-- The second encoder's result, of the arguments as launched. -/
def second (c : Dev nD) : Arr Ideal S10000x64 :=
  encoder (m ((c.tc : Thread nD τ).loc main_arg1)) (m ((c.tc : Thread nD τ).loc main_arg4))
    (m ((c.tc : Thread nD τ).loc main_arg5)) (m ((c.tc : Thread nD τ).loc main_arg19)) (m ((c.tc : Thread nD τ).loc main_arg20))
    (m ((c.tc : Thread nD τ).loc main_arg21)) (m ((c.tc : Thread nD τ).loc main_arg22)) (m ((c.tc : Thread nD τ).loc main_arg23))
    (m ((c.tc : Thread nD τ).loc main_arg24)) (m ((c.tc : Thread nD τ).loc main_arg25)) (m ((c.tc : Thread nD τ).loc main_arg26))
    (m ((c.tc : Thread nD τ).loc main_arg27)) (m ((c.tc : Thread nD τ).loc main_arg28)) (m ((c.tc : Thread nD τ).loc main_arg29))
    (m ((c.tc : Thread nD τ).loc main_arg30)) (m ((c.tc : Thread nD τ).loc main_arg31))

/-- The host operations before the grid, in the groups they are read in. -/
theorem entry_eq (c : Dev nD) (b : Ref sig .tc) : V m c b = StableHlo.after Host.lines (fun b => m (c, b)) b := by
  refine congrArg (fun l => StableHlo.after l (fun b => m (c, b)) b) ?_
  simp only [List.flatten_cons, List.flatten_nil, List.append_nil, Host.lines, Host.lineA, Host.lineB, Host.lineC, Host.lineD,
    Host.lineE, Host.lineF, List.append_assoc]

/-- The grid finds the two results in the arrays its blocks are cut from. -/
theorem entry_first (c : Dev nD) : V m c main_v148 = first m c := (entry_eq m c main_v148).trans (Host.lines_v148 _)
theorem entry_second (c : Dev nD) : V m c main_v297 = second m c := (entry_eq m c main_v297).trans (Host.lines_v297 _)

/-- The argument arrays of a device are, in the memory `r`, what they are in `m`. -/
def Kept (r : (ℓ : Loc nD τ sig) → Buf (Elt Ideal) ℓ) (c : Dev nD) : Prop :=
      r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)
      ∧ r ((c.tc : Thread nD τ).loc main_arg4) = m ((c.tc : Thread nD τ).loc main_arg4)
      ∧ r ((c.tc : Thread nD τ).loc main_arg5) = m ((c.tc : Thread nD τ).loc main_arg5)
      ∧ r ((c.tc : Thread nD τ).loc main_arg6) = m ((c.tc : Thread nD τ).loc main_arg6)
      ∧ r ((c.tc : Thread nD τ).loc main_arg7) = m ((c.tc : Thread nD τ).loc main_arg7)
      ∧ r ((c.tc : Thread nD τ).loc main_arg8) = m ((c.tc : Thread nD τ).loc main_arg8)
      ∧ r ((c.tc : Thread nD τ).loc main_arg9) = m ((c.tc : Thread nD τ).loc main_arg9)
      ∧ r ((c.tc : Thread nD τ).loc main_arg10) = m ((c.tc : Thread nD τ).loc main_arg10)
      ∧ r ((c.tc : Thread nD τ).loc main_arg11) = m ((c.tc : Thread nD τ).loc main_arg11)
      ∧ r ((c.tc : Thread nD τ).loc main_arg12) = m ((c.tc : Thread nD τ).loc main_arg12)
      ∧ r ((c.tc : Thread nD τ).loc main_arg13) = m ((c.tc : Thread nD τ).loc main_arg13)
      ∧ r ((c.tc : Thread nD τ).loc main_arg14) = m ((c.tc : Thread nD τ).loc main_arg14)
      ∧ r ((c.tc : Thread nD τ).loc main_arg15) = m ((c.tc : Thread nD τ).loc main_arg15)
      ∧ r ((c.tc : Thread nD τ).loc main_arg16) = m ((c.tc : Thread nD τ).loc main_arg16)
      ∧ r ((c.tc : Thread nD τ).loc main_arg17) = m ((c.tc : Thread nD τ).loc main_arg17)
      ∧ r ((c.tc : Thread nD τ).loc main_arg18) = m ((c.tc : Thread nD τ).loc main_arg18)
      ∧ r ((c.tc : Thread nD τ).loc main_arg19) = m ((c.tc : Thread nD τ).loc main_arg19)
      ∧ r ((c.tc : Thread nD τ).loc main_arg20) = m ((c.tc : Thread nD τ).loc main_arg20)
      ∧ r ((c.tc : Thread nD τ).loc main_arg21) = m ((c.tc : Thread nD τ).loc main_arg21)
      ∧ r ((c.tc : Thread nD τ).loc main_arg22) = m ((c.tc : Thread nD τ).loc main_arg22)
      ∧ r ((c.tc : Thread nD τ).loc main_arg23) = m ((c.tc : Thread nD τ).loc main_arg23)
      ∧ r ((c.tc : Thread nD τ).loc main_arg24) = m ((c.tc : Thread nD τ).loc main_arg24)
      ∧ r ((c.tc : Thread nD τ).loc main_arg25) = m ((c.tc : Thread nD τ).loc main_arg25)
      ∧ r ((c.tc : Thread nD τ).loc main_arg26) = m ((c.tc : Thread nD τ).loc main_arg26)
      ∧ r ((c.tc : Thread nD τ).loc main_arg27) = m ((c.tc : Thread nD τ).loc main_arg27)
      ∧ r ((c.tc : Thread nD τ).loc main_arg28) = m ((c.tc : Thread nD τ).loc main_arg28)
      ∧ r ((c.tc : Thread nD τ).loc main_arg29) = m ((c.tc : Thread nD τ).loc main_arg29)
      ∧ r ((c.tc : Thread nD τ).loc main_arg30) = m ((c.tc : Thread nD τ).loc main_arg30)
      ∧ r ((c.tc : Thread nD τ).loc main_arg31) = m ((c.tc : Thread nD τ).loc main_arg31)

section
variable (r : PUnit × MemSt nD τ sig (Elt Ideal)) (h : Pipeline.FramePost cfgs (dats m) 0 (V m) r) (c : Dev nD)
include h

/-- What the three results hold after a run. -/
theorem final_first : r.2.mem ((c.tc : Thread nD τ).loc main_v148) = first m c :=
  (((h c).1 0).trans ((dats m 0 c).arrAt_in 0 rfl _)).trans (entry_first m c)
theorem final_second : r.2.mem ((c.tc : Thread nD τ).loc main_v297) = second m c :=
  (((h c).1 1).trans ((dats m 0 c).arrAt_in 1 rfl _)).trans (entry_second m c)
theorem final_third (p q : Fin 10000) (hp : p.val < 9728) (hq : q.val < 9216) :
    (r.2.mem ((c.tc : Thread nD τ).loc main_v298) : FVec Ideal S10000x10000 .f32) (ix2 p q)
      = ∑ k : Fin 64, (first m c (ix2 p k) * second m c (ix2 q k) : EReal) := by
  refine Eq.trans ?_ (Tile.written m c (first m c) (second m c) (entry_first m c) (entry_second m c) p q hp hq)
  rw [post2 m r h c]

/-- After a run the arguments are what they were. -/
theorem kept : Kept m r.2.mem c :=
  ⟨kept_main_arg0 m r h c, kept_main_arg1 m r h c, kept_main_arg2 m r h c, kept_main_arg3 m r h c,
    kept_main_arg4 m r h c, kept_main_arg5 m r h c, kept_main_arg6 m r h c, kept_main_arg7 m r h c,
    kept_main_arg8 m r h c, kept_main_arg9 m r h c, kept_main_arg10 m r h c, kept_main_arg11 m r h c,
    kept_main_arg12 m r h c, kept_main_arg13 m r h c, kept_main_arg14 m r h c, kept_main_arg15 m r h c,
    kept_main_arg16 m r h c, kept_main_arg17 m r h c, kept_main_arg18 m r h c, kept_main_arg19 m r h c,
    kept_main_arg20 m r h c, kept_main_arg21 m r h c, kept_main_arg22 m r h c, kept_main_arg23 m r h c,
    kept_main_arg24 m r h c, kept_main_arg25 m r h c, kept_main_arg26 m r h c, kept_main_arg27 m r h c,
    kept_main_arg28 m r h c, kept_main_arg29 m r h c, kept_main_arg30 m r h c, kept_main_arg31 m r h c⟩

end

/-- The kernel's run: its first two results are the two encoders', its third under the tiles their product; the arguments
    are unchanged. -/
theorem run : θ_run defs (onTc (τ := τ) (main (F := Ideal))) ⟨m, fun _ => 0, ρ⟩ fun r => ∀ c : Dev nD,
      r.2.mem ((c.tc : Thread nD τ).loc main_v148) = first m c
      ∧ r.2.mem ((c.tc : Thread nD τ).loc main_v297) = second m c
      ∧ (∀ p q : Fin 10000, p.val < 9728 → q.val < 9216 →
        (r.2.mem ((c.tc : Thread nD τ).loc main_v298) : FVec Ideal S10000x10000 .f32) (ix2 p q)
          = ∑ k : Fin 64, (first m c (ix2 p k) * second m c (ix2 q k) : EReal))
      ∧ Kept m r.2.mem c :=
  (θ_run defs _ _).mono (fun r h c => ⟨final_first m r h c, final_second m r h c, final_third m r h c, kept m r h c⟩) (run_main m ρ)

end Cert.Kern

end
-- ==== Proof.Alpha.lean ====
/- The softmax over a node's incoming edges does not depend on the shift of its logits, over the extended reals: shifting
   every node's logits by a real number, and scaling the guard with it, gives the softmax without a shift. -/
module

public import proofs.«01_k».proof.Proof.Stage
public import Idealize.ShloMosaic.PureOps.Ideal.Laws

@[expose] public section

set_option maxRecDepth 16384

noncomputable section

namespace Cert.Alpha

open Idealize.ShloMosaic Cert.KernelIdeal Cert.KernelIdeal.Gen Cert.Stage
open scoped BigOperators

/-- A quotient is unchanged when both sides are multiplied by one positive real, whatever they are. -/
theorem div_scale (x y : EReal) {c : ℝ} (hc : 0 < c) : Ideal.div (x * c) (y * c) = Ideal.div x y := by
  have hc0 : (c : EReal) ≠ 0 := by exact_mod_cast hc.ne'
  have hcp : (0 : EReal) < c := by exact_mod_cast hc
  unfold Ideal.div
  by_cases hy : y = 0
  · subst hy
    rw [zero_mul, if_pos rfl, if_pos rfl]
    have : 0 < x * (c : EReal) ↔ 0 < x := by
      constructor
      · intro h
        by_contra hx
        exact absurd (mul_nonpos_of_nonpos_of_nonneg (not_lt.1 hx) hcp.le) (not_le.2 h)
      · intro h; exact EReal.mul_pos h hcp
    simp only [this]
  · have hyc : y * (c : EReal) ≠ 0 := mul_ne_zero hy hc0
    rw [if_neg hyc, if_neg hy, EReal.mul_inv, mul_mul_mul_comm]
    have : (c : EReal) * (c : EReal)⁻¹ = 1 := by
      rw [← EReal.coe_inv, ← EReal.coe_mul, mul_inv_cancel₀ hc.ne', EReal.coe_one]
    rw [this, mul_one]

/-- The exponential turns a real shift into a factor. -/
theorem exp_sub (x : EReal) (r : ℝ) : Ideal.exp (x - r) = Ideal.exp x * ((Real.exp (-r) : ℝ) : EReal) := by
  have hbot : Ideal.exp ⊥ = 0 := rfl
  have htop : Ideal.exp ⊤ = ⊤ := rfl
  have hreal (y : ℝ) : Ideal.exp y = ((Real.exp y : ℝ) : EReal) := rfl
  induction x with
  | bot => rw [EReal.bot_sub, hbot, zero_mul]
  | top => rw [EReal.top_sub_coe, htop]; exact (EReal.top_mul_coe_of_pos (Real.exp_pos _)).symm
  | coe x => rw [← EReal.coe_sub, hreal, hreal, ← EReal.coe_mul, ← Real.exp_add, sub_eq_add_neg]

/-- A real nonnegative factor comes out of a sum, whatever the summands are. -/
theorem sum_scale {ι : Type} (s : Finset ι) (f : ι → EReal) {c : ℝ} (hc : 0 ≤ c) :
    ∑ k ∈ s, f k * (c : EReal) = (∑ k ∈ s, f k) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- The edge an element of the edges' rows belongs to. -/
abbrev edge (j : S320000x8.Idx) : S320000.Idx := fun a => match a with | 0 => j 0

/-- The place in a column at which an edge's number stands. -/
abbrev entry (j : S320000x8.Idx) : S320000x1.Idx := fun a => match a with | 0 => j 0 | 1 => (0 : Fin 1)

/-- A column holds an edge's number. -/
theorem col_entry (i : Ints Ideal S320000) (j : S320000x8.Idx) : col (F := Ideal) i (entry j) = i (edge j) := by
  unfold col broadcastInDim
  congr 1
  funext a
  match a with
  | 0 => rfl

/-- Where an edge's row is added to the table of the nodes is where the edge's row of such a table is read. -/
theorem lands (dst : Ints Ideal S320000) (j : S320000x8.Idx) (i : S10000x8.Idx)
    (h : scatter_S10000x8_S320000x1_S320000x8_1_0_0_1.resultIdx? j (col (F := Ideal) dst) = some i) :
    gather_S10000x8_S320000x1_S320000x8_1_0_n_n_0_1_18.operandIdx j (wrap (F := Ideal) dst) = i := by
  unfold ScatterDims.resultIdx? at h
  have hs : scatter_S10000x8_S320000x1_S320000x8_1_0_0_1.start j (col (F := Ideal) dst) 0 = (dst (edge j)).toInt := by
    rw [← col_entry dst j]
    unfold ScatterDims.start
    rw [dif_pos (by decide)]
    congr 2
    funext a
    match a with
    | 0 => rfl
    | 1 => rfl
  have hw : scatter_S10000x8_S320000x1_S320000x8_1_0_0_1.window j 0 = 0 := rfl
  split at h
  · next hh =>
    have h0 := hh 0
    rw [hs, hw] at h0
    injection h with h
    subst h
    funext a
    apply Fin.ext
    match a with
    | 0 =>
      show gather_S10000x8_S320000x1_S320000x8_1_0_n_n_0_1_18.start j (wrap (F := Ideal) dst) 0 + 0 + 0
        = (scatter_S10000x8_S320000x1_S320000x8_1_0_0_1.start j (col (F := Ideal) dst) 0
          + scatter_S10000x8_S320000x1_S320000x8_1_0_0_1.window j 0).toNat
      rw [hs, hw]
      have hg : gather_S10000x8_S320000x1_S320000x8_1_0_n_n_0_1_18.start j (wrap (F := Ideal) dst) 0
          = min (wrap (F := Ideal) dst (entry j)).toInt.toNat (10000 - 1) := by
        unfold GatherDims.start
        rw [dif_pos (by decide)]
        congr 4
        funext a
        match a with
        | 0 => rfl
        | 1 => rfl
      have hwrap : wrap (F := Ideal) dst (entry j) = dst (edge j) := by
        unfold wrap
        rw [col_entry]
        have hn : (dst (edge j)).slt 0#32 = false := by
          rw [BitVec.slt_eq_decide, decide_eq_false_iff_not, not_lt]
          simpa using h0.1
        show Scalar.select (BitVec.ofBool ((dst (edge j)).slt 0#32)) _ _ = _
        rw [hn]
        rfl
      rw [hg, hwrap]
      have : (S10000x8.size 0 : ℤ) = 10000 := rfl
      omega
    | 1 => rfl
  · cases h

/-- The exponential of a shift, as the factor it puts on a node's row. -/
theorem exp_neg (r : ℝ) : Ideal.exp (-(r : EReal)) = ((Real.exp (-r) : ℝ) : EReal) := by
  rw [← EReal.coe_neg]; rfl

/-- The exponentials of the edges' logits. -/
abbrev expOf (e : Arr Ideal S320000x8) : Arr Ideal S320000x8 := Host.exp (F := Ideal) (φ := .f32) e

/-- The sum of a node's incoming rows, the logits shifted by reals, is the one without the shift times the factor. -/
theorem total_shift (M : Arr Ideal S10000x8) (e : Arr Ideal S320000x8) (dst : Ints Ideal S320000) (i : S10000x8.Idx) (r : ℝ)
    (hr : M i = (r : EReal)) :
    total (F := Ideal) dst (expOf (subf e (pick M dst))) i = total (F := Ideal) dst (expOf e) i * ((Real.exp (-r) : ℝ) : EReal) := by
  have hz : (broadcastInDim S10000x8 ![] bcast_S_S10000x8 (constant (F := Ideal) S_ .f32 0x00000000#32)) i = (0 : EReal) :=
    Ideal.ofBits_zero_f32
  unfold total Host.scatterAdd
  rw [Ideal.hostScatterAdd_def, Ideal.hostScatterAdd_def]
  unfold Ideal.hostScatterAdd
  rw [hz, zero_add, zero_add, ← sum_scale _ _ (Real.exp_pos _).le]
  refine Finset.sum_congr rfl fun k hk => ?_
  have hk := lands dst k i (Finset.mem_filter.1 hk).2
  show Ideal.exp (e k - M (gather_S10000x8_S320000x1_S320000x8_1_0_n_n_0_1_18.operandIdx k (wrap (F := Ideal) dst))) = Ideal.exp (e k) * _
  rw [hk, hr, exp_sub]

/-- The node whose row an edge reads. -/
abbrev node (dst : Ints Ideal S320000) (j : S320000x8.Idx) : S10000x8.Idx :=
  gather_S10000x8_S320000x1_S320000x8_1_0_n_n_0_1_18.operandIdx j (wrap (F := Ideal) dst)

/-- The guard of the softmax's denominator. -/
abbrev guard : Arr Ideal S320000x8 := broadcastInDim S320000x8 ![] bcast_S_S320000x8 (constant (F := Ideal) S_ .f32 0x3089705F#32)

section At

variable (a b : FVec Ideal S320000x8 .f32) (j : S320000x8.Idx)

theorem div_at : Host.divf a b j = Ideal.div (a j) (b j) := rfl
theorem add_at : addf a b j = a j + b j := rfl
theorem mul_at : mulf a b j = a j * b j := rfl
theorem sub_at : subf a b j = a j - b j := rfl
theorem exp_at : Host.exp a j = Ideal.exp (a j) := rfl

end At

theorem pick_at (x : Arr Ideal S10000x8) (dst : Ints Ideal S320000) (j : S320000x8.Idx) : pick x dst j = x (node dst j) := rfl

/-- An edge's softmax without a shift. -/
theorem plain_at (e : Arr Ideal S320000x8) (dst : Ints Ideal S320000) (j : S320000x8.Idx) :
    alphaPlain e dst j = Ideal.div (Ideal.exp (e j)) (total (F := Ideal) dst (expOf e) (node dst j) + guard j) := by
  unfold alphaPlain
  rw [div_at, add_at, pick_at, exp_at]

/-- An edge's softmax with a shift. -/
theorem shift_at (M : Arr Ideal S10000x8) (e : Arr Ideal S320000x8) (dst : Ints Ideal S320000) (j : S320000x8.Idx) :
    alphaShift M e dst j = Ideal.div (Ideal.exp (e j - M (node dst j)))
      (total (F := Ideal) dst (expOf (subf e (pick M dst))) (node dst j) + guard j * Ideal.exp (-(M (node dst j)))) := by
  unfold alphaShift
  rw [div_at, add_at, mul_at, pick_at, pick_at, exp_at, sub_at, pick_at]
  rfl

/-- The softmax shifted by any reals, its guard scaled by the same factors, is the softmax without a shift. -/
theorem alpha_shift (M : Arr Ideal S10000x8) (e : Arr Ideal S320000x8) (dst : Ints Ideal S320000)
    (hM : ∀ i, ∃ r : ℝ, M i = (r : EReal)) : alphaShift M e dst = alphaPlain e dst := by
  funext j
  obtain ⟨r, hr⟩ := hM (node dst j)
  rw [plain_at, shift_at, total_shift M e dst _ r hr, hr, exp_sub, exp_neg,
    ← EReal.right_distrib_of_nonneg_of_ne_top (EReal.coe_nonneg.2 (Real.exp_pos _).le) (EReal.coe_ne_top _), div_scale _ _ (Real.exp_pos _)]

/-- A table of the nodes with its infinities replaced by 0 holds reals only. -/
theorem finite_real (M : Arr Ideal S10000x8) (i : S10000x8.Idx) : ∃ r : ℝ, finite M i = (r : EReal) := by
  have htop : Ideal.ofBits .f32 0x7F800000#32 = ⊤ := by simp [Ideal.ofBits, Ideal.ieee]
  have hf : finite M i = Scalar.select (Ideal.cmp .olt (max (M i) (-(M i))) (Ideal.ofBits .f32 0x7F800000#32)) (M i)
    (Ideal.ofBits .f32 0x00000000#32) := rfl
  rw [hf, htop, Ideal.ofBits_zero_f32]
  have all : ∀ x : EReal, ∃ r : ℝ, Scalar.select (Ideal.cmp .olt (max x (-x)) ⊤) x 0 = (r : EReal) := fun x => by
   induction x with
   | bot => exact ⟨0, by rw [EReal.neg_bot]; simp [Ideal.cmp, Scalar.select]⟩
   | top => exact ⟨0, by simp [Ideal.cmp, Scalar.select]⟩
   | coe r =>
    refine ⟨r, ?_⟩
    have hlt : max (r : EReal) (-(r : EReal)) < ⊤ := max_lt (EReal.coe_lt_top r) (by rw [← EReal.coe_neg]; exact EReal.coe_lt_top _)
    simp [Ideal.cmp, Scalar.select, hlt]
  exact all (M i)

end Cert.Alpha

end
-- ==== Proof.Ref.lean ====
/- What the reference computes: its two encoders are the kernel's, the softmax's shift taken away. -/
module

public import proofs.«01_k».proof.Proof.Alpha
public import proofs.«01_k».proof.Proof.Gen.ReferenceIdeal.Run
public import Idealize.ShloMosaic.Lib.StackMember

@[expose] public section

set_option maxRecDepth 16384

noncomputable section

namespace Cert.Ref

open scoped BigOperators
open Idealize.ShloMosaic Idealize.ShloMosaic.ValueIdx Idealize.ShloMosaic.TcCoe Idealize.SL.Sem Idealize.ShloMosaic.StableHlo Cert.ReferenceIdeal Cert.ReferenceIdeal.Value Cert.Stage

variable (V : Valuation τ sig (Elt Ideal))

/-- The reference's softmax, whatever the maxima are, is the one without a shift. -/
theorem softmax (M : Arr Ideal KernelIdeal.S10000x8) (e : Arr Ideal KernelIdeal.S320000x8) (dst : Ints Ideal KernelIdeal.S320000) :
    alphaShift (finite M) e dst = alphaPlain e dst := Alpha.alpha_shift _ e dst (Alpha.finite_real M)

/-- The reference's graph attention, its softmax without the shift, is the kernel's. -/
theorem attention (wh : Arr Ideal KernelIdeal.S10000x64) (ei : Ints Ideal KernelIdeal.S2x320000) (Wg : Arr Ideal KernelIdeal.S64x512)
    (al ar b : Arr Ideal KernelIdeal.S8x64) (M : Arr Ideal KernelIdeal.S10000x8) :
    aggregate (proj wh Wg) (alphaShift (finite M) (leaky (logits (proj wh Wg) al ar (srcOf (F := Ideal) ei) (dstOf (F := Ideal) ei)))
      (dstOf (F := Ideal) ei)) (srcOf (F := Ideal) ei) (dstOf (F := Ideal) ei) b = gat wh ei Wg al ar b := by
  rw [softmax]; rfl

/-- The four graph attentions of the reference. -/
theorem gat_v92 : res_main_v92 V =
    gat (hidden (V main_arg0) (V main_arg6)) (V main_arg2) (V main_arg7) (V main_arg8) (V main_arg9) (V main_arg10) := by
  rw [← attention _ _ _ _ _ _ (res_main_v40 V)]; rfl
theorem gat_v186 : res_main_v186 V =
    gat (hidden (V main_arg0) (V main_arg6)) (V main_arg3) (V main_arg11) (V main_arg12) (V main_arg13) (V main_arg14) := by
  rw [← attention _ _ _ _ _ _ (res_main_v134 V)]; rfl
theorem gat_v305 : res_main_v305 V =
    gat (hidden (V main_arg1) (V main_arg19)) (V main_arg4) (V main_arg20) (V main_arg21) (V main_arg22) (V main_arg23) := by
  rw [← attention _ _ _ _ _ _ (res_main_v253 V)]; rfl
theorem gat_v399 : res_main_v399 V =
    gat (hidden (V main_arg1) (V main_arg19)) (V main_arg5) (V main_arg24) (V main_arg25) (V main_arg26) (V main_arg27) := by
  rw [← attention _ _ _ _ _ _ (res_main_v347 V)]; rfl

/-- The embeddings the two semantic attentions mix. -/
theorem stack_v191 : res_main_v191 V = stack (flat (elu (res_main_v92 V))) (flat (elu (res_main_v186 V))) := rfl
theorem stack_v404 : res_main_v404 V = stack (flat (elu (res_main_v305 V))) (flat (elu (res_main_v399 V))) := rfl

/-- The shifted exponentials of the two semantic attentions. -/
theorem heights_v204 : res_main_v204 V = heights (weigh (res_main_v191 V) (V main_arg15) (V main_arg16) (V main_arg17)) := rfl
theorem heights_v417 : res_main_v417 V = heights (weigh (res_main_v404 V) (V main_arg28) (V main_arg29) (V main_arg30)) := rfl

/-- The first encoder's result. -/
abbrev h1 : Arr Ideal KernelIdeal.S10000x64 :=
  encoder (V main_arg0) (V main_arg2) (V main_arg3) (V main_arg6) (V main_arg7) (V main_arg8) (V main_arg9) (V main_arg10)
    (V main_arg11) (V main_arg12) (V main_arg13) (V main_arg14) (V main_arg15) (V main_arg16) (V main_arg17) (V main_arg18)

/-- The second encoder's result. -/
abbrev h2 : Arr Ideal KernelIdeal.S10000x64 :=
  encoder (V main_arg1) (V main_arg4) (V main_arg5) (V main_arg19) (V main_arg20) (V main_arg21) (V main_arg22) (V main_arg23)
    (V main_arg24) (V main_arg25) (V main_arg26) (V main_arg27) (V main_arg28) (V main_arg29) (V main_arg30) (V main_arg31)

/-- Both, from the parts the reference's run names. -/
theorem mix_h1 : mix (res_main_v191 V) (Host.divf (res_main_v204 V) (pair (Host.reduceAdd (res_main_v204 V)
    (constant S_ .f32 0x00000000#32) KernelIdeal.Gen.reducesTo_S10000x2x1_S10000x1_d1 KernelIdeal.Gen.h_S_))) (V main_arg18) = h1 V := by
  rw [heights_v204, stack_v191, gat_v92, gat_v186]; rfl
theorem mix_h2 : mix (res_main_v404 V) (Host.divf (res_main_v417 V) (pair (Host.reduceAdd (res_main_v417 V)
    (constant S_ .f32 0x00000000#32) KernelIdeal.Gen.reducesTo_S10000x2x1_S10000x1_d1 KernelIdeal.Gen.h_S_))) (V main_arg31) = h2 V := by
  rw [heights_v417, stack_v404, gat_v305, gat_v399]; rfl

/-- The product of the two results, rows against rows. -/
abbrev prod (x y : Arr Ideal KernelIdeal.S10000x64) : Arr Ideal S10000x10000 :=
  Host.dotGeneral (F := Ideal) (φ₁ := .f32) (φ₂ := .f32) dot_S10000x64_S64x10000_S10000x10000_1_0_0_1_n_n none x
    (transpose (α := Ideal .f32) S64x10000 [1, 0] y Gen.transposes_S10000x64_S64x10000_1_0)

variable (m : (ℓ : Loc nD τ sig) → Buf (Elt Ideal) ℓ) (ρ : Dev nD → PrngReg)

/-- The argument arrays of a device are, in the memory `r`, what they are in `m`. -/
def Kept (r : (ℓ : Loc nD τ sig) → Buf (Elt Ideal) ℓ) (c : Dev nD) : Prop :=
      r ((c.tc : Thread nD τ).loc main_arg0) = m ((c.tc : Thread nD τ).loc main_arg0)
      ∧ r ((c.tc : Thread nD τ).loc main_arg1) = m ((c.tc : Thread nD τ).loc main_arg1)
      ∧ r ((c.tc : Thread nD τ).loc main_arg2) = m ((c.tc : Thread nD τ).loc main_arg2)
      ∧ r ((c.tc : Thread nD τ).loc main_arg3) = m ((c.tc : Thread nD τ).loc main_arg3)
      ∧ r ((c.tc : Thread nD τ).loc main_arg4) = m ((c.tc : Thread nD τ).loc main_arg4)
      ∧ r ((c.tc : Thread nD τ).loc main_arg5) = m ((c.tc : Thread nD τ).loc main_arg5)
      ∧ r ((c.tc : Thread nD τ).loc main_arg6) = m ((c.tc : Thread nD τ).loc main_arg6)
      ∧ r ((c.tc : Thread nD τ).loc main_arg7) = m ((c.tc : Thread nD τ).loc main_arg7)
      ∧ r ((c.tc : Thread nD τ).loc main_arg8) = m ((c.tc : Thread nD τ).loc main_arg8)
      ∧ r ((c.tc : Thread nD τ).loc main_arg9) = m ((c.tc : Thread nD τ).loc main_arg9)
      ∧ r ((c.tc : Thread nD τ).loc main_arg10) = m ((c.tc : Thread nD τ).loc main_arg10)
      ∧ r ((c.tc : Thread nD τ).loc main_arg11) = m ((c.tc : Thread nD τ).loc main_arg11)
      ∧ r ((c.tc : Thread nD τ).loc main_arg12) = m ((c.tc : Thread nD τ).loc main_arg12)
      ∧ r ((c.tc : Thread nD τ).loc main_arg13) = m ((c.tc : Thread nD τ).loc main_arg13)
      ∧ r ((c.tc : Thread nD τ).loc main_arg14) = m ((c.tc : Thread nD τ).loc main_arg14)
      ∧ r ((c.tc : Thread nD τ).loc main_arg15) = m ((c.tc : Thread nD τ).loc main_arg15)
      ∧ r ((c.tc : Thread nD τ).loc main_arg16) = m ((c.tc : Thread nD τ).loc main_arg16)
      ∧ r ((c.tc : Thread nD τ).loc main_arg17) = m ((c.tc : Thread nD τ).loc main_arg17)
      ∧ r ((c.tc : Thread nD τ).loc main_arg18) = m ((c.tc : Thread nD τ).loc main_arg18)
      ∧ r ((c.tc : Thread nD τ).loc main_arg19) = m ((c.tc : Thread nD τ).loc main_arg19)
      ∧ r ((c.tc : Thread nD τ).loc main_arg20) = m ((c.tc : Thread nD τ).loc main_arg20)
      ∧ r ((c.tc : Thread nD τ).loc main_arg21) = m ((c.tc : Thread nD τ).loc main_arg21)
      ∧ r ((c.tc : Thread nD τ).loc main_arg22) = m ((c.tc : Thread nD τ).loc main_arg22)
      ∧ r ((c.tc : Thread nD τ).loc main_arg23) = m ((c.tc : Thread nD τ).loc main_arg23)
      ∧ r ((c.tc : Thread nD τ).loc main_arg24) = m ((c.tc : Thread nD τ).loc main_arg24)
      ∧ r ((c.tc : Thread nD τ).loc main_arg25) = m ((c.tc : Thread nD τ).loc main_arg25)
      ∧ r ((c.tc : Thread nD τ).loc main_arg26) = m ((c.tc : Thread nD τ).loc main_arg26)
      ∧ r ((c.tc : Thread nD τ).loc main_arg27) = m ((c.tc : Thread nD τ).loc main_arg27)
      ∧ r ((c.tc : Thread nD τ).loc main_arg28) = m ((c.tc : Thread nD τ).loc main_arg28)
      ∧ r ((c.tc : Thread nD τ).loc main_arg29) = m ((c.tc : Thread nD τ).loc main_arg29)
      ∧ r ((c.tc : Thread nD τ).loc main_arg30) = m ((c.tc : Thread nD τ).loc main_arg30)
      ∧ r ((c.tc : Thread nD τ).loc main_arg31) = m ((c.tc : Thread nD τ).loc main_arg31)

/-- The reference's run: its three results are the two encoders' and their product; the arguments are unchanged. -/
theorem run : θ_run defs (onTc (τ := τ) (main (F := Ideal))) ⟨m, fun _ => 0, ρ⟩ fun r => ∀ c : Dev nD,
      r.2.mem ((c.tc : Thread nD τ).loc main_v212) = h1 (launchContents m c)
      ∧ r.2.mem ((c.tc : Thread nD τ).loc main_v425) = h2 (launchContents m c)
      ∧ r.2.mem ((c.tc : Thread nD τ).loc main_v427) = prod (h1 (launchContents m c)) (h2 (launchContents m c))
      ∧ Kept m r.2.mem c := by
  refine (θ_run defs _ _).mono (fun r h c => ?_) (Value.run (F := Ideal) m ρ)
  obtain ⟨e1, e2, e3, ha⟩ := h c
  have k1 := mix_h1 (launchContents m c)
  have k2 := mix_h2 (launchContents m c)
  refine ⟨e1.trans k1, e2.trans k2, ?_, ha⟩
  rw [← k1, ← k2]
  exact e3

/-- An entry of that product. -/
theorem prod_at (x y : Arr Ideal KernelIdeal.S10000x64) (r s : Fin 10000) :
    prod x y (ix2 r s) = ∑ k : Fin 64, (x (ix2 r k) * y (ix2 s k) : EReal) := by
  refine (StackMember.dotGeneral_plain_apply (m := 10000) (k := 64) (n := 10000) none x _ r s).trans
    (Finset.sum_congr rfl fun k _ => congrArg (x (ix2 r k) * ·) (transpose_apply _ _ _ _ (ix2 s k) fun b => ?_))
  match b with
  | ⟨0, _⟩ => rfl
  | ⟨1, _⟩ => rfl

end Cert.Ref

end
-- ==== Proof.Mask.lean ====
/- The value claim's mask, read at an entry of the third result. -/
module

public import proofs.«01_k».proof.Proof.Gen.On_written
public import Idealize.ShloMosaic.Lib.ValueIdxCore
public import Idealize.ShloMosaic.Lib.Affine

@[expose] public section

noncomputable section

namespace Cert.Mask

open Idealize.ShloMosaic Idealize.ShloMosaic.ValueIdx Cert.On_written

/-- A signed comparison of two small numbers holds when the numbers compare so. -/
theorem lt_of_slt (a b : ℕ) (ha : a < 10000) (hb : b < 10000) (h : IntOp.cmpi .slt (BitVec.ofNat 32 a) (BitVec.ofNat 32 b) = 1#1) :
    a < b := by
  have hlt := IntOp.cmpi_slt.mp h
  rw [BitVec.toInt_ofNat', BitVec.toInt_ofNat', Int.bmod_def, Int.bmod_def] at hlt
  omega

/-- Where the mask of the third result is set, the entry lies under the tiles. -/
theorem under {F : FTy → Type} [FloatOps F] {p q : Fin 10000}
    {a0 a1 : FVec F S10000x128 .f32} {a2 a3 a4 a5 : IVec S2x320000 32} {a6 a19 : FVec F S128x64 .f32}
    {a7 a11 a20 a24 : FVec F S64x512 .f32} {a8 a9 a10 a12 a13 a14 a21 a22 a23 a25 a26 a27 : FVec F S8x64 .f32}
    {a15 a28 : FVec F S512x128 .f32} {a16 a29 : FVec F S128 .f32} {a17 a30 : FVec F S128x1 .f32} {a18 a31 : FVec F S512x64 .f32}
    (h : (fn (F := F) a0 a1 a2 a3 a4 a5 a6 a7 a8 a9 a10 a11 a12 a13 a14 a15 a16 a17 a18 a19 a20 a21 a22 a23 a24 a25 a26 a27 a28 a29 a30 a31).2.2 (ix2 p q) = 1#1) : p.val < 9728 ∧ q.val < 9216 := by
  have h' : IntOp.cmpi .slt (BitVec.ofNat 32 p.val) 9728#32 &&& IntOp.cmpi .slt (BitVec.ofNat 32 q.val) 9216#32 = 1#1 := h
  have hb : ∀ a b : BitVec 1, a &&& b = 1#1 → a = 1#1 ∧ b = 1#1 := by decide
  obtain ⟨h1, h2⟩ := hb _ _ h'
  exact ⟨lt_of_slt p.val 9728 p.isLt (by decide) h1, lt_of_slt q.val 9216 q.isLt (by decide) h2⟩

end Cert.Mask

end
-- ==== Proof.lean ====
/- The certificate: the kernel and the reference run and leave their arguments; over exact reals the kernel's first two
   results are the reference's, and its third is wherever a tile writes it. -/
module

public import proofs.«01_k».proof.Defs
public import proofs.«01_k».proof.Proof.Gen.Kernel.Frame
public import proofs.«01_k».proof.Proof.Kern
public import proofs.«01_k».proof.Proof.Ref
public import proofs.«01_k».proof.Proof.Mask
public import Idealize.ShloMosaic.Adequacy
public import Idealize.ShloMosaic.Init

@[expose] public section

set_option maxRecDepth 16384

noncomputable section

namespace Cert.Proof

open scoped BigOperators
open Idealize.ShloMosaic Idealize.ShloMosaic.ValueIdx Idealize.SL.Sem

/-- The reference runs, leaves its arguments, and ends with every semaphore at zero. -/
theorem frame_reference : Cert.quiescent_ReferenceIdeal := fun m g _ =>
  (θ_run Cert.ReferenceIdeal.defs _ _).mono
    (fun r h => ⟨fun c => (h c).2.2.2, sem_eq_zero_of_no_sems (by decide) r.2⟩) (Cert.Ref.run m g)

/-- Both programs' encoders, of the same arguments, agree. -/
theorem encoders (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (h : m' ((c.tc : Thread ReferenceIdeal.nD ReferenceIdeal.τ).loc ReferenceIdeal.main_arg0) = m ((c.tc : Thread KernelIdeal.nD KernelIdeal.τ).loc KernelIdeal.main_arg0)
      ∧ m' ((c.tc : Thread ReferenceIdeal.nD ReferenceIdeal.τ).loc ReferenceIdeal.main_arg1) = m ((c.tc : Thread KernelIdeal.nD KernelIdeal.τ).loc KernelIdeal.main_arg1)
      ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3)
      ∧ m' ((c.tc : Thread ReferenceIdeal.nD ReferenceIdeal.τ).loc ReferenceIdeal.main_arg4) = m ((c.tc : Thread KernelIdeal.nD KernelIdeal.τ).loc KernelIdeal.main_arg4)
      ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6)
      ∧ m' ((c.tc : Thread ReferenceIdeal.nD ReferenceIdeal.τ).loc ReferenceIdeal.main_arg7) = m ((c.tc : Thread KernelIdeal.nD KernelIdeal.τ).loc KernelIdeal.main_arg7)
      ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9)
      ∧ m' ((c.tc : Thread ReferenceIdeal.nD ReferenceIdeal.τ).loc ReferenceIdeal.main_arg10) = m ((c.tc : Thread KernelIdeal.nD KernelIdeal.τ).loc KernelIdeal.main_arg10)
      ∧ m' ((c.tc : Thread ReferenceIdeal.nD ReferenceIdeal.τ).loc ReferenceIdeal.main_arg11) = m ((c.tc : Thread KernelIdeal.nD KernelIdeal.τ).loc KernelIdeal.main_arg11)
      ∧ m' ((c.tc : Thread ReferenceIdeal.nD ReferenceIdeal.τ).loc ReferenceIdeal.main_arg12) = m ((c.tc : Thread KernelIdeal.nD KernelIdeal.τ).loc KernelIdeal.main_arg12)
      ∧ m' ((c.tc : Thread ReferenceIdeal.nD ReferenceIdeal.τ).loc ReferenceIdeal.main_arg13) = m ((c.tc : Thread KernelIdeal.nD KernelIdeal.τ).loc KernelIdeal.main_arg13)
      ∧ m' ((c.tc : Thread ReferenceIdeal.nD ReferenceIdeal.τ).loc ReferenceIdeal.main_arg14) = m ((c.tc : Thread KernelIdeal.nD KernelIdeal.τ).loc KernelIdeal.main_arg14)
      ∧ m' ((c.tc : Thread ReferenceIdeal.nD ReferenceIdeal.τ).loc ReferenceIdeal.main_arg15) = m ((c.tc : Thread KernelIdeal.nD KernelIdeal.τ).loc KernelIdeal.main_arg15)
      ∧ m' ((c.tc : Thread ReferenceIdeal.nD ReferenceIdeal.τ).loc ReferenceIdeal.main_arg16) = m ((c.tc : Thread KernelIdeal.nD KernelIdeal.τ).loc KernelIdeal.main_arg16)
      ∧ m' ((c.tc : Thread ReferenceIdeal.nD ReferenceIdeal.τ).loc ReferenceIdeal.main_arg17) = m ((c.tc : Thread KernelIdeal.nD KernelIdeal.τ).loc KernelIdeal.main_arg17)
      ∧ m' ((c.tc : Thread ReferenceIdeal.nD ReferenceIdeal.τ).loc ReferenceIdeal.main_arg18) = m ((c.tc : Thread KernelIdeal.nD KernelIdeal.τ).loc KernelIdeal.main_arg18)
      ∧ m' ((c.tc : Thread ReferenceIdeal.nD ReferenceIdeal.τ).loc ReferenceIdeal.main_arg19) = m ((c.tc : Thread KernelIdeal.nD KernelIdeal.τ).loc KernelIdeal.main_arg19)
      ∧ m' ((c.tc : Thread ReferenceIdeal.nD ReferenceIdeal.τ).loc ReferenceIdeal.main_arg20) = m ((c.tc : Thread KernelIdeal.nD KernelIdeal.τ).loc KernelIdeal.main_arg20)
      ∧ m' ((c.tc : Thread ReferenceIdeal.nD ReferenceIdeal.τ).loc ReferenceIdeal.main_arg21) = m ((c.tc : Thread KernelIdeal.nD KernelIdeal.τ).loc KernelIdeal.main_arg21)
      ∧ m' ((c.tc : Thread ReferenceIdeal.nD ReferenceIdeal.τ).loc ReferenceIdeal.main_arg22) = m ((c.tc : Thread KernelIdeal.nD KernelIdeal.τ).loc KernelIdeal.main_arg22)
      ∧ m' ((c.tc : Thread ReferenceIdeal.nD ReferenceIdeal.τ).loc ReferenceIdeal.main_arg23) = m ((c.tc : Thread KernelIdeal.nD KernelIdeal.τ).loc KernelIdeal.main_arg23)
      ∧ m' ((c.tc : Thread ReferenceIdeal.nD ReferenceIdeal.τ).loc ReferenceIdeal.main_arg24) = m ((c.tc : Thread KernelIdeal.nD KernelIdeal.τ).loc KernelIdeal.main_arg24)
      ∧ m' ((c.tc : Thread ReferenceIdeal.nD ReferenceIdeal.τ).loc ReferenceIdeal.main_arg25) = m ((c.tc : Thread KernelIdeal.nD KernelIdeal.τ).loc KernelIdeal.main_arg25)
      ∧ m' ((c.tc : Thread ReferenceIdeal.nD ReferenceIdeal.τ).loc ReferenceIdeal.main_arg26) = m ((c.tc : Thread KernelIdeal.nD KernelIdeal.τ).loc KernelIdeal.main_arg26)
      ∧ m' ((c.tc : Thread ReferenceIdeal.nD ReferenceIdeal.τ).loc ReferenceIdeal.main_arg27) = m ((c.tc : Thread KernelIdeal.nD KernelIdeal.τ).loc KernelIdeal.main_arg27)
      ∧ m' ((c.tc : Thread ReferenceIdeal.nD ReferenceIdeal.τ).loc ReferenceIdeal.main_arg28) = m ((c.tc : Thread KernelIdeal.nD KernelIdeal.τ).loc KernelIdeal.main_arg28)
      ∧ m' ((c.tc : Thread ReferenceIdeal.nD ReferenceIdeal.τ).loc ReferenceIdeal.main_arg29) = m ((c.tc : Thread KernelIdeal.nD KernelIdeal.τ).loc KernelIdeal.main_arg29)
      ∧ m' ((c.tc : Thread ReferenceIdeal.nD ReferenceIdeal.τ).loc ReferenceIdeal.main_arg30) = m ((c.tc : Thread KernelIdeal.nD KernelIdeal.τ).loc KernelIdeal.main_arg30)
      ∧ m' ((c.tc : Thread ReferenceIdeal.nD ReferenceIdeal.τ).loc ReferenceIdeal.main_arg31) = m ((c.tc : Thread KernelIdeal.nD KernelIdeal.τ).loc KernelIdeal.main_arg31)) :
    Ref.h1 (StableHlo.launchContents m' c) = Kern.first m c ∧ Ref.h2 (StableHlo.launchContents m' c) = Kern.second m c := by
  obtain ⟨h0, h1, h2, h3, h4, h5, h6, h7, h8, h9, h10, h11, h12, h13, h14, h15, h16, h17, h18, h19, h20, h21, h22, h23, h24, h25, h26, h27, h28, h29, h30, h31⟩ := h
  exact ⟨Stage.same h0 h2 h3 h6 h7 h8 h9 h10 h11 h12 h13 h14 h15 h16 h17 h18, Stage.same h1 h4 h5 h19 h20 h21 h22 h23 h24 h25 h26 h27 h28 h29 h30 h31⟩

/-- The value claim: equal first and second results, and equal third results under the tiles. -/
theorem value : Cert.algebraic_KernelIdeal_ReferenceIdeal_on_written := by
  intro m g m' g' _ hagree
  refine ⟨fun c => Kern.first m c, fun c => Kern.second m c, fun c => Ref.prod (Kern.first m c) (Kern.second m c), ?_, ?_⟩
  · refine (θ_run Cert.KernelIdeal.defs _ _).mono (fun r h c => ?_) (Kern.run m g)
    obtain ⟨e1, e2, e3, ha⟩ := h c
    refine ⟨fun i _ => congrFun e1 i, fun i _ => congrFun e2 i, fun i hi => ?_, ha⟩
    obtain ⟨p, q, rfl⟩ : ∃ p q, i = ix2 p q := ⟨_, _, eq_ix2 i⟩
    obtain ⟨hp, hq⟩ := Mask.under hi
    exact (e3 p q hp hq).trans (Ref.prod_at _ _ p q).symm
  · refine (θ_run Cert.ReferenceIdeal.defs _ _).mono (fun r h c => ?_) (Ref.run m' g')
    obtain ⟨e1, e2, e3, ha⟩ := h c
    obtain ⟨k1, k2⟩ := encoders m m' c (hagree c)
    rw [k1] at e1 e3
    rw [k2] at e2 e3
    exact ⟨fun i _ => congrFun e1 i, fun i _ => congrFun e2 i, fun i _ => congrFun e3 i, ha⟩

theorem claim : Cert.Claim :=
  ⟨Cert.Kernel.Gen.facts, Cert.KernelIdeal.Gen.facts, Cert.ReferenceIdeal.Gen.facts, Cert.On_written.Gen.facts,
    fun m g _ => Cert.Kernel.Gen.frame m g, fun m g _ => Cert.KernelIdeal.Gen.frame m g, frame_reference, trivial, value⟩

end Cert.Proof

end
